-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Both (m : (ℓ : Loc Cert.Both.nD Cert.Both.τ Cert.Both.sig) → Buf (Elt Bits) ℓ) : Prop :=
  True

def Pre_BothIdeal (m : (ℓ : Loc Cert.BothIdeal.nD Cert.BothIdeal.τ Cert.BothIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Both [hBoth : Cert.Both.Facts] : Prop :=
  ∀ (m : (ℓ : Loc Cert.Both.nD Cert.Both.τ Cert.Both.sig) → Buf (Elt Bits) ℓ) (g : Dev Cert.Both.nD → PrngReg), Pre_Both m →
    θ_run (Cert.Both.defs (F := Bits)) (onTc (τ := Cert.Both.τ) (Cert.Both.main (F := Bits))) ⟨m, fun _ => 0, g⟩ (fun r => (∀ c : Dev Cert.Both.nD,
      r.2.mem ((c.tc : Thread Cert.Both.nD Cert.Both.τ).loc Cert.Both.main_arg0) = m ((c.tc : Thread Cert.Both.nD Cert.Both.τ).loc Cert.Both.main_arg0))
      ∧ r.2.sem = fun _ => 0)

def quiescent_BothIdeal [hBothIdeal : Cert.BothIdeal.Facts] : Prop :=
  ∀ (m : (ℓ : Loc Cert.BothIdeal.nD Cert.BothIdeal.τ Cert.BothIdeal.sig) → Buf (Elt Ideal) ℓ) (g : Dev Cert.BothIdeal.nD → PrngReg), Pre_BothIdeal m →
    θ_run (Cert.BothIdeal.defs (F := Ideal)) (onTc (τ := Cert.BothIdeal.τ) (Cert.BothIdeal.main (F := Ideal))) ⟨m, fun _ => 0, g⟩ (fun r => (∀ c : Dev Cert.BothIdeal.nD,
      r.2.mem ((c.tc : Thread Cert.BothIdeal.nD Cert.BothIdeal.τ).loc Cert.BothIdeal.main_arg0) = m ((c.tc : Thread Cert.BothIdeal.nD Cert.BothIdeal.τ).loc Cert.BothIdeal.main_arg0))
      ∧ r.2.sem = fun _ => 0)

def preserves_Kernel_KernelIdeal : Prop :=
  IdealRules.named_const.Statement Cert.KernelIdeal.κ "qmin" .f32 0xC1000000#32 ((Real.log (1440801 / 4294967296) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Both_BothIdeal : Prop :=
  IdealRules.named_const.Statement Cert.BothIdeal.κ "qmin" .f32 0xC1000000#32 ((Real.log (1440801 / 4294967296) : ℝ) : EReal)

def holds_BothIdeal_within_two_levels [hBothIdeal : Cert.BothIdeal.Facts] [hPost_within_two_levels : Cert.Post_within_two_levels.Facts] : Prop :=
  ∀ (m : (ℓ : Loc Cert.BothIdeal.nD Cert.BothIdeal.τ Cert.BothIdeal.sig) → Buf (Elt Ideal) ℓ) (g : Dev Cert.BothIdeal.nD → PrngReg), Pre_BothIdeal m →
    θ_run (Cert.BothIdeal.defs (F := Ideal)) (onTc (τ := Cert.BothIdeal.τ) (Cert.BothIdeal.main (F := Ideal))) ⟨m, fun _ => 0, g⟩ (fun r => ∀ c : Dev Cert.BothIdeal.nD,
      r.2.mem ((c.tc : Thread Cert.BothIdeal.nD Cert.BothIdeal.τ).loc Cert.BothIdeal.main_arg0) = m ((c.tc : Thread Cert.BothIdeal.nD Cert.BothIdeal.τ).loc Cert.BothIdeal.main_arg0)
      ∧ (Cert.Post_within_two_levels.fn (F := Ideal) (m ((c.tc : Thread Cert.BothIdeal.nD Cert.BothIdeal.τ).loc Cert.BothIdeal.main_arg0)) (r.2.mem ((c.tc : Thread Cert.BothIdeal.nD Cert.BothIdeal.τ).loc Cert.BothIdeal.main_v2)) (r.2.mem ((c.tc : Thread Cert.BothIdeal.nD Cert.BothIdeal.τ).loc Cert.BothIdeal.main_v14))) = (fun _ => 1#1))

def Claim : Prop :=
  ∃ (hKernel : Cert.Kernel.Facts) (hKernelIdeal : Cert.KernelIdeal.Facts) (hReferenceIdeal : Cert.ReferenceIdeal.Facts) (hBoth : Cert.Both.Facts) (hBothIdeal : Cert.BothIdeal.Facts) (hPost_within_two_levels : Cert.Post_within_two_levels.Facts),
    quiescent_Kernel (hKernel := hKernel)
    ∧ quiescent_KernelIdeal (hKernelIdeal := hKernelIdeal)
    ∧ quiescent_ReferenceIdeal (hReferenceIdeal := hReferenceIdeal)
    ∧ quiescent_Both (hBoth := hBoth)
    ∧ quiescent_BothIdeal (hBothIdeal := hBothIdeal)
    ∧ preserves_Kernel_KernelIdeal
    ∧ algebraic_KernelIdeal_ReferenceIdeal (hKernelIdeal := hKernelIdeal) (hReferenceIdeal := hReferenceIdeal)
    ∧ preserves_Both_BothIdeal
    ∧ holds_BothIdeal_within_two_levels (hBothIdeal := hBothIdeal) (hPost_within_two_levels := hPost_within_two_levels)
-- ==== Post_within_two_levels.lean ====
abbrev S4x64x384x384 : Shape := ⟨4, ![4, 64, 384, 384]⟩
abbrev S_ : Shape := ⟨0, ![]⟩

class Facts : Prop where
  bcast_S_S4x64x384x384 : S_.BroadcastsInDim S4x64x384x384 (![] : Fin 0 → Fin S4x64x384x384.rank)

variable [Facts]

def fn {F : FTy → Type} [FloatOps F] (main_arg0 : FVec F S4x64x384x384 .f32) (main_arg1 : FVec F S4x64x384x384 .f32) (main_arg2 : FVec F S4x64x384x384 .f32) : IVec S4x64x384x384 1 :=
  let main_v0 : FVec F S4x64x384x384 .f32 := subf main_arg1 main_arg2
  let main_v1 : FVec F S4x64x384x384 .f32 := Host.absf main_v0
  let main_cst : FVec F S_ .f32 := constant S_ .f32 0x3E000000#32
  let main_v2 : FVec F S4x64x384x384 .f32 := broadcastInDim S4x64x384x384 ![] bcast_S_S4x64x384x384 main_cst
  let main_v3 : IVec S4x64x384x384 1 := cmpf .ole main_v1 main_v2
  main_v3
-- ==== Kernel.lean ====
abbrev S4x64x384x384 : Shape := ⟨4, ![4, 64, 384, 384]⟩
abbrev S256x384x384 : Shape := ⟨3, ![256, 384, 384]⟩
abbrev S256x32x384 : Shape := ⟨3, ![256, 32, 384]⟩
abbrev S32x384 : Shape := ⟨2, ![32, 384]⟩
abbrev S1x32x384 : Shape := ⟨3, ![1, 32, 384]⟩

abbrev nBuf : Space → Nat
  | .hbm => 4
  | .vmem => 4
  | .smem => 0
  | _ => 0

abbrev bufTy : (tb : Table) → Fin (tcTables nBuf tb) → BufTy
  | .hbm, ⟨0, _⟩ => ⟨S4x64x384x384, .f32⟩
  | .hbm, ⟨1, _⟩ => ⟨S256x384x384, .f32⟩
  | .hbm, ⟨2, _⟩ => ⟨S256x384x384, .f32⟩
  | .hbm, ⟨3, _⟩ => ⟨S4x64x384x384, .f32⟩
  | .local _ .vmem, ⟨0, _⟩ => ⟨S256x32x384, .f32⟩
  | .local _ .vmem, ⟨1, _⟩ => ⟨S256x32x384, .f32⟩
  | .local _ .vmem, ⟨2, _⟩ => ⟨S256x32x384, .f32⟩
  | .local _ .vmem, ⟨3, _⟩ => ⟨S256x32x384, .f32⟩
  | _, _ => ⟨S4x64x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v23 : Index := Scalar.indexCast arg3
  let c0_12 : Index := 0#32
  let c0_13 : Index := 0#32
  ![v23.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "qmin" => some ((Real.log (1440801 / 4294967296) : ℝ) : EReal)
  | _ => none
-- ==== ReferenceIdeal.lean ====
abbrev S4x64x384x384 : Shape := ⟨4, ![4, 64, 384, 384]⟩
abbrev S256x384x384 : Shape := ⟨3, ![256, 384, 384]⟩
abbrev S_ : Shape := ⟨0, ![]⟩
abbrev S384x384 : Shape := ⟨2, ![384, 384]⟩
abbrev S1x384x384 : Shape := ⟨3, ![1, 384, 384]⟩
abbrev S1x1x384x384 : Shape := ⟨4, ![1, 1, 384, 384]⟩

abbrev nBuf : Space → Nat
  | .hbm => 48
  | .vmem => 0
  | .smem => 0
  | _ => 0

abbrev bufTy : (tb : Table) → Fin (tcTables nBuf tb) → BufTy
  | .hbm, ⟨0, _⟩ => ⟨S4x64x384x384, .f32⟩
  | .hbm, ⟨1, _⟩ => ⟨S256x384x384, .f32⟩
  | .hbm, ⟨2, _⟩ => ⟨S_, .f32⟩
  | .hbm, ⟨3, _⟩ => ⟨S384x384, .f32⟩
  | .hbm, ⟨4, _⟩ => ⟨S384x384, .f32⟩
  | .hbm, ⟨5, _⟩ => ⟨S_, .i32⟩
  | .hbm, ⟨6, _⟩ => ⟨S256x384x384, .f32⟩
  | .hbm, ⟨7, _⟩ => ⟨S384x384, .f32⟩
  | .hbm, ⟨8, _⟩ => ⟨S_, .i32⟩
  | .hbm, ⟨9, _⟩ => ⟨S384x384, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S1x384x384, .f32⟩
  | .hbm, ⟨15, _⟩ => ⟨S384x384, .f32⟩
  | .hbm, ⟨16, _⟩ => ⟨S384x384, .f32⟩
  | .hbm, ⟨17, _⟩ => ⟨S384x384, .f32⟩
  | .hbm, ⟨18, _⟩ => ⟨S384x384, .f32⟩
  | .hbm, ⟨19, _⟩ => ⟨S384x384, .f32⟩
  | .hbm, ⟨20, _⟩ => ⟨S384x384, .f32⟩
  | .hbm, ⟨21, _⟩ => ⟨S384x384, .f32⟩
  | .hbm, ⟨22, _⟩ => ⟨S384x384, .f32⟩
  | .hbm, ⟨23, _⟩ => ⟨S_, .f32⟩
  | .hbm, ⟨24, _⟩ => ⟨S384x384, .f32⟩
  | .hbm, ⟨25, _⟩ => ⟨S_, .f32⟩
  | .hbm, ⟨26, _⟩ => ⟨S384x384, .f32⟩
  | .hbm, ⟨27, _⟩ => ⟨S384x384, .f32⟩
  | .hbm, ⟨28, _⟩ => ⟨S_, .i32⟩
  | .hbm, ⟨29, _⟩ => ⟨S_, .i32⟩
  | .hbm, ⟨30, _⟩ => ⟨S1x1x384x384, .f32⟩
  | .hbm, ⟨31, _⟩ => ⟨S4x64x384x384, .f32⟩
  | .hbm, ⟨32, _⟩ => ⟨S4x64x384x384, .f32⟩
  | .hbm, ⟨33, _⟩ => ⟨S_, .f32⟩
  | .hbm, ⟨34, _⟩ => ⟨S4x64x384x384, .f32⟩
  | .hbm, ⟨35, _⟩ => ⟨S4x64x384x384, .f32⟩
  | .hbm, ⟨36, _⟩ => ⟨S4x64x384x384, .f32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S4x64x384x384, .f32⟩
  | .hbm, ⟨41, _⟩ => ⟨S4x64x384x384, .f32⟩
  | .hbm, ⟨42, _⟩ => ⟨S_, .f32⟩
  | .hbm, ⟨43, _⟩ => ⟨S4x64x384x384, .f32⟩
  | .hbm, ⟨44, _⟩ => ⟨S4x64x384x384, .f32⟩
  | .hbm, ⟨45, _⟩ => ⟨S_, .f32⟩
  | .hbm, ⟨46, _⟩ => ⟨S4x64x384x384, .f32⟩
  | .hbm, ⟨47, _⟩ => ⟨S4x64x384x384, .f32⟩
  | _, _ => ⟨S4x64x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_while0c_c_7 : Ref sig .tc := ⟨.hbm, 10, rfl⟩
abbrev main_while0c_v13 : Ref sig .tc := ⟨.hbm, 11, rfl⟩
abbrev main_while0b_call0_c : Ref sig .tc := ⟨.hbm, 12, rfl⟩
abbrev main_while0b_call0_c_0 : Ref sig .tc := ⟨.hbm, 13, rfl⟩
abbrev main_while0b_call0_v0 : Ref sig .tc := ⟨.hbm, 14, rfl⟩
abbrev main_while0b_v13 : Ref sig .tc := ⟨.hbm, 15, rfl⟩
abbrev main_while0b_v14 : Ref sig .tc := ⟨.hbm, 16, rfl⟩
abbrev main_while0b_v15 : Ref sig .tc := ⟨.hbm, 17, rfl⟩
abbrev main_while0b_v16 : Ref sig .tc := ⟨.hbm, 18, rfl⟩
abbrev main_while0b_v17 : Ref sig .tc := ⟨.hbm, 19, rfl⟩
abbrev main_while0b_v18 : Ref sig .tc := ⟨.hbm, 20, rfl⟩
abbrev main_while0b_v19 : Ref sig .tc := ⟨.hbm, 21, rfl⟩
abbrev main_while0b_v20 : Ref sig .tc := ⟨.hbm, 22, rfl⟩
abbrev main_while0b_cst_7 : Ref sig .tc := ⟨.hbm, 23, rfl⟩
abbrev main_while0b_call1_v0 : Ref sig .tc := ⟨.hbm, 24, rfl⟩
abbrev main_while0b_call1_v1 : Ref sig .tc := ⟨.hbm, 25, rfl⟩
abbrev main_while0b_call1_v2 : Ref sig .tc := ⟨.hbm, 26, rfl⟩
abbrev main_while0b_v21 : Ref sig .tc := ⟨.hbm, 27, rfl⟩
abbrev main_while0b_c_8 : Ref sig .tc := ⟨.hbm, 28, rfl⟩
abbrev main_while0b_v22 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_c_2 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v10 : Ref sig .tc := ⟨.hbm, 44, rfl⟩
abbrev main_cst_3 : Ref sig .tc := ⟨.hbm, 45, rfl⟩
abbrev main_v11 : Ref sig .tc := ⟨.hbm, 46, rfl⟩
abbrev main_v12 : Ref sig .tc := ⟨.hbm, 47, rfl⟩

abbrev nD : Nat := 1
abbrev τ : Topo := Topo.v7x

variable {F : FTy → Type} [FloatOps F]

def κ : String → Option EReal := fun
  | "qmin" => some ((Real.log (1440801 / 4294967296) : ℝ) : EReal)
  | _ => none

abbrev main_while0_count : Scf.Loop 32 := ⟨0#32, 256#32, 1#32⟩
-- ==== Both.lean ====
abbrev S4x64x384x384 : Shape := ⟨4, ![4, 64, 384, 384]⟩
abbrev S256x384x384 : Shape := ⟨3, ![256, 384, 384]⟩
abbrev S256x32x384 : Shape := ⟨3, ![256, 32, 384]⟩
abbrev S32x384 : Shape := ⟨2, ![32, 384]⟩
abbrev S1x32x384 : Shape := ⟨3, ![1, 32, 384]⟩
abbrev S_ : Shape := ⟨0, ![]⟩
abbrev S384x384 : Shape := ⟨2, ![384, 384]⟩
abbrev S1x384x384 : Shape := ⟨3, ![1, 384, 384]⟩
abbrev S1x1x384x384 : Shape := ⟨4, ![1, 1, 384, 384]⟩

abbrev nBuf : Space → Nat
  | .hbm => 69
  | .vmem => 4
  | .smem => 0
  | _ => 0

abbrev bufTy : (tb : Table) → Fin (tcTables nBuf tb) → BufTy
  | .hbm, ⟨0, _⟩ => ⟨S4x64x384x384, .f32⟩
  | .hbm, ⟨1, _⟩ => ⟨S256x384x384, .f32⟩
  | .hbm, ⟨2, _⟩ => ⟨S256x384x384, .f32⟩
  | .hbm, ⟨3, _⟩ => ⟨S4x64x384x384, .f32⟩
  | .hbm, ⟨4, _⟩ => ⟨S256x384x384, .f32⟩
  | .hbm, ⟨5, _⟩ => ⟨S_, .f32⟩
  | .hbm, ⟨6, _⟩ => ⟨S384x384, .f32⟩
  | .hbm, ⟨7, _⟩ => ⟨S_, .i32⟩
  | .hbm, ⟨8, _⟩ => ⟨S256x384x384, .f32⟩
  | .hbm, ⟨9, _⟩ => ⟨S_, .i32⟩
  | .hbm, ⟨10, _⟩ => ⟨S384x384, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1x384x384, .f32⟩
  | .hbm, ⟨16, _⟩ => ⟨S384x384, .f32⟩
  | .hbm, ⟨17, _⟩ => ⟨S384x384, .f32⟩
  | .hbm, ⟨18, _⟩ => ⟨S384x384, .f32⟩
  | .hbm, ⟨19, _⟩ => ⟨S_, .f32⟩
  | .hbm, ⟨20, _⟩ => ⟨S384x384, .f32⟩
  | .hbm, ⟨21, _⟩ => ⟨S384x384, .f32⟩
  | .hbm, ⟨22, _⟩ => ⟨S384x384, .f32⟩
  | .hbm, ⟨23, _⟩ => ⟨S_, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S384x384, .f32⟩
  | .hbm, ⟨31, _⟩ => ⟨S384x384, .f32⟩
  | .hbm, ⟨32, _⟩ => ⟨S_, .f32⟩
  | .hbm, ⟨33, _⟩ => ⟨S384x384, .f32⟩
  | .hbm, ⟨34, _⟩ => ⟨S384x384, .f32⟩
  | .hbm, ⟨35, _⟩ => ⟨S384x384, .f32⟩
  | .hbm, ⟨36, _⟩ => ⟨S_, .f32⟩
  | .hbm, ⟨37, _⟩ => ⟨S384x384, .f32⟩
  | .hbm, ⟨38, _⟩ => ⟨S384x384, .f32⟩
  | .hbm, ⟨39, _⟩ => ⟨S384x384, .f32⟩
  | .hbm, ⟨40, _⟩ => ⟨S384x384, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S384x384, .f32⟩
  | .hbm, ⟨45, _⟩ => ⟨S384x384, .f32⟩
  | .hbm, ⟨46, _⟩ => ⟨S_, .f32⟩
  | .hbm, ⟨47, _⟩ => ⟨S384x384, .f32⟩
  | .hbm, ⟨48, _⟩ => ⟨S384x384, .f32⟩
  | .hbm, ⟨49, _⟩ => ⟨S_, .i32⟩
  | .hbm, ⟨50, _⟩ => ⟨S_, .i32⟩
  | .hbm, ⟨51, _⟩ => ⟨S1x1x384x384, .f32⟩
  | .hbm, ⟨52, _⟩ => ⟨S4x64x384x384, .f32⟩
  | .hbm, ⟨53, _⟩ => ⟨S4x64x384x384, .f32⟩
  | .hbm, ⟨54, _⟩ => ⟨S_, .f32⟩
  | .hbm, ⟨55, _⟩ => ⟨S4x64x384x384, .f32⟩
  | .hbm, ⟨56, _⟩ => ⟨S4x64x384x384, .f32⟩
  | .hbm, ⟨57, _⟩ => ⟨S4x64x384x384, .f32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S4x64x384x384, .f32⟩
  | .hbm, ⟨62, _⟩ => ⟨S4x64x384x384, .f32⟩
  | .hbm, ⟨63, _⟩ => ⟨S_, .f32⟩
  | .hbm, ⟨64, _⟩ => ⟨S4x64x384x384, .f32⟩
  | .hbm, ⟨65, _⟩ => ⟨S4x64x384x384, .f32⟩
  | .hbm, ⟨66, _⟩ => ⟨S_, .f32⟩
  | .hbm, ⟨67, _⟩ => ⟨S4x64x384x384, .f32⟩
  | .hbm, ⟨68, _⟩ => ⟨S4x64x384x384, .f32⟩
  | .local _ .vmem, ⟨0, _⟩ => ⟨S256x32x384, .f32⟩
  | .local _ .vmem, ⟨1, _⟩ => ⟨S256x32x384, .f32⟩
  | .local _ .vmem, ⟨2, _⟩ => ⟨S256x32x384, .f32⟩
  | .local _ .vmem, ⟨3, _⟩ => ⟨S256x32x384, .f32⟩
  | _, _ => ⟨S4x64x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_c : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_while0c_c_6 : Ref sig .tc := ⟨.hbm, 11, rfl⟩
abbrev main_while0c_v15 : Ref sig .tc := ⟨.hbm, 12, rfl⟩
abbrev main_while0b_call0_c : Ref sig .tc := ⟨.hbm, 13, rfl⟩
abbrev main_while0b_call0_c_0 : Ref sig .tc := ⟨.hbm, 14, rfl⟩
abbrev main_while0b_call0_v0 : Ref sig .tc := ⟨.hbm, 15, rfl⟩
abbrev main_while0b_v15 : Ref sig .tc := ⟨.hbm, 16, rfl⟩
abbrev main_while0b_v16 : Ref sig .tc := ⟨.hbm, 17, rfl⟩
abbrev main_while0b_v17 : Ref sig .tc := ⟨.hbm, 18, rfl⟩
abbrev main_while0b_cst_6 : Ref sig .tc := ⟨.hbm, 19, rfl⟩
abbrev main_while0b_v18 : Ref sig .tc := ⟨.hbm, 20, rfl⟩
abbrev main_while0b_v19 : Ref sig .tc := ⟨.hbm, 21, rfl⟩
abbrev main_while0b_v20 : Ref sig .tc := ⟨.hbm, 22, rfl⟩
abbrev main_while0b_cst_7 : Ref sig .tc := ⟨.hbm, 23, rfl⟩
abbrev main_while0b_v21 : Ref sig .tc := ⟨.hbm, 24, rfl⟩
abbrev main_while0b_v22 : Ref sig .tc := ⟨.hbm, 25, rfl⟩
abbrev main_while0b_cst_8 : Ref sig .tc := ⟨.hbm, 26, rfl⟩
abbrev main_while0b_v23 : Ref sig .tc := ⟨.hbm, 27, rfl⟩
abbrev main_while0b_v24 : Ref sig .tc := ⟨.hbm, 28, rfl⟩
abbrev main_while0b_v25 : Ref sig .tc := ⟨.hbm, 29, rfl⟩
abbrev main_while0b_v26 : Ref sig .tc := ⟨.hbm, 30, rfl⟩
abbrev main_while0b_v27 : Ref sig .tc := ⟨.hbm, 31, rfl⟩
abbrev main_while0b_cst_9 : Ref sig .tc := ⟨.hbm, 32, rfl⟩
abbrev main_while0b_v28 : Ref sig .tc := ⟨.hbm, 33, rfl⟩
abbrev main_while0b_v29 : Ref sig .tc := ⟨.hbm, 34, rfl⟩
abbrev main_while0b_v30 : Ref sig .tc := ⟨.hbm, 35, rfl⟩
abbrev main_while0b_cst_10 : Ref sig .tc := ⟨.hbm, 36, rfl⟩
abbrev main_while0b_v31 : Ref sig .tc := ⟨.hbm, 37, rfl⟩
abbrev main_while0b_v32 : Ref sig .tc := ⟨.hbm, 38, rfl⟩
abbrev main_while0b_v33 : Ref sig .tc := ⟨.hbm, 39, rfl⟩
abbrev main_while0b_v34 : Ref sig .tc := ⟨.hbm, 40, rfl⟩
abbrev main_while0b_cst_11 : Ref sig .tc := ⟨.hbm, 41, rfl⟩
abbrev main_while0b_cst_12 : Ref sig .tc := ⟨.hbm, 42, rfl⟩
abbrev main_while0b_call2_v0 : Ref sig .tc := ⟨.hbm, 43, rfl⟩
abbrev main_while0b_call2_v1 : Ref sig .tc := ⟨.hbm, 44, rfl⟩
abbrev main_while0b_call2_v2 : Ref sig .tc := ⟨.hbm, 45, rfl⟩
abbrev main_while0b_call2_v3 : Ref sig .tc := ⟨.hbm, 46, rfl⟩
abbrev main_while0b_call2_v4 : Ref sig .tc := ⟨.hbm, 47, rfl⟩
abbrev main_while0b_v35 : Ref sig .tc := ⟨.hbm, 48, rfl⟩
abbrev main_while0b_c_13 : Ref sig .tc := ⟨.hbm, 49, rfl⟩
abbrev main_while0b_v36 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_cst_0 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_c_1 : Ref sig .tc := ⟨.hbm, 58, rfl⟩
abbrev main_c_2 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_v12 : Ref sig .tc := ⟨.hbm, 65, rfl⟩
abbrev main_cst_3 : Ref sig .tc := ⟨.hbm, 66, rfl⟩
abbrev main_v13 : Ref sig .tc := ⟨.hbm, 67, rfl⟩
abbrev main_v14 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev main_while0_count : Scf.Loop 32 := ⟨0#32, 256#32, 1#32⟩

abbrev grid0 : Pipeline.Grid := ⟨1, ![12], ![false]⟩

@[reducible] def k0_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v23 : Index := Scalar.indexCast arg3
  let c0_12 : Index := 0#32
  let c0_13 : Index := 0#32
  ![v23.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BothIdeal.lean ====
variable {F : FTy → Type} [FloatOps F] [Named F]
def κ : String → Option EReal := fun
  | "qmin" => some ((Real.log (1440801 / 4294967296) : ℝ) : EReal)
  | _ => none
-- ==== Proof.Math.lean ====
/-
  The mathematics of the streaming log-sum over the extended reals: a running state that is replaced, value by value, by
  `max s t + log(1 + exp(-|s - t|))` clipped to `[lo, hi]` is at every count the clipped logarithm of one growing sum of
  exponentials, whatever the values are (the infinities included).
-/
module

public import Idealize.ShloMosaic.PureOps.Ideal
public import Mathlib.Analysis.SpecialFunctions.Log.Basic

@[expose] public section

noncomputable section

namespace Cert.LogSum

open Idealize.ShloMosaic

/-- The number the 32-bit pattern of `0.00033546262` denotes. -/
def expLo : ℝ := 1440801 / 4294967296

/-- The lower end of the state's range, `-8` to within `1.2e-8`. -/
def lo : ℝ := Real.log expLo

/-- The upper end of the state's range, `7.9375`. -/
def hi : ℝ := 127 / 16

theorem expLo_pos : 0 < expLo := by norm_num [expLo]

theorem expLo_lt_one : expLo < 1 := by norm_num [expLo]

theorem lo_neg : lo < 0 := Real.log_neg expLo_pos expLo_lt_one

theorem lo_le_hi : lo ≤ hi := lo_neg.le.trans (by norm_num [hi])

/-- The sum of the exponentials of the first `k` values, started at the exponential of the range's lower end. -/
def total (t : ℕ → EReal) : ℕ → EReal
  | 0 => (expLo : EReal)
  | k + 1 => total t k + Ideal.exp (t k)

/-- A number brought into the range. -/
def clip (s : EReal) : EReal := min (hi : EReal) (max (lo : EReal) s)

/-- One step of the streaming form: the running state `s` meets the value `t`. -/
def meet (s t : EReal) : EReal :=
  clip (max s t + Ideal.log1p (Ideal.exp (-(max (s - t) (-(s - t))))))

/-- The streaming form's state after the first `k` values. -/
def stream (t : ℕ → EReal) : ℕ → EReal
  | 0 => (lo : EReal)
  | k + 1 => meet (stream t k) (t k)

theorem log_coe {r : ℝ} (h : 0 < r) : Ideal.log (r : EReal) = ((Real.log r : ℝ) : EReal) := by
  show (if r ≤ 0 then ⊥ else ((Real.log r : ℝ) : EReal)) = _
  rw [if_neg (not_le.mpr h)]

/-- The clip of a real number is a real number. -/
theorem clip_coe (r : ℝ) : clip (r : EReal) = ((min hi (max lo r) : ℝ) : EReal) := by
  unfold clip
  rw [EReal.coe_strictMono.monotone.map_min, EReal.coe_strictMono.monotone.map_max]

theorem clip_top : clip ⊤ = (hi : EReal) := by
  unfold clip; simp

/-- A number in the range is its own clip. -/
theorem clip_of_mem {r : ℝ} (h₁ : lo ≤ r) (h₂ : r ≤ hi) : clip (r : EReal) = (r : EReal) := by
  rw [clip_coe, max_eq_right h₁, min_eq_right h₂]

/-- The correction term at an infinite distance is nothing. -/
theorem log1p_exp_bot : Ideal.log1p (Ideal.exp ⊥) = 0 := by
  show Ideal.log (1 + 0) = 0
  rw [add_zero]
  have h := log_coe (r := 1) one_pos
  rw [Real.log_one] at h
  exact h

/-- The correction term at a real distance. -/
theorem log1p_exp_coe (d : ℝ) :
    Ideal.log1p (Ideal.exp (d : EReal)) = ((Real.log (1 + Real.exp d) : ℝ) : EReal) := by
  show Ideal.log (1 + ((Real.exp d : ℝ) : EReal)) = _
  rw [show (1 : EReal) + ((Real.exp d : ℝ) : EReal) = ((1 + Real.exp d : ℝ) : EReal) by push_cast; rfl]
  exact log_coe (by positivity)

/-- The larger of two numbers plus the correction at their distance is the logarithm of the sum of their exponentials. -/
theorem max_add_log (s t : ℝ) :
    max s t + Real.log (1 + Real.exp (-|s - t|)) = Real.log (Real.exp s + Real.exp t) := by
  rcases le_total s t with h | h
  · rw [max_eq_right h, abs_of_nonpos (by linarith), neg_neg]
    rw [show Real.exp s + Real.exp t = Real.exp t * (1 + Real.exp (s - t)) by rw [Real.exp_sub]; field_simp; ring]
    rw [Real.log_mul (by positivity) (by positivity), Real.log_exp]
  · rw [max_eq_left h, abs_of_nonneg (by linarith)]
    rw [show Real.exp s + Real.exp t = Real.exp s * (1 + Real.exp (-(s - t))) by
      rw [neg_sub, Real.exp_sub]; field_simp]
    rw [Real.log_mul (by positivity) (by positivity), Real.log_exp]

/-- The step at real numbers. -/
theorem meet_coe (s t : ℝ) :
    meet (s : EReal) (t : EReal) = clip ((Real.log (Real.exp s + Real.exp t) : ℝ) : EReal) := by
  unfold meet
  rw [show ((s : EReal) - (t : EReal)) = ((s - t : ℝ) : EReal) by push_cast; rfl, ← EReal.coe_neg (s - t),
    ← EReal.coe_strictMono.monotone.map_max (a := s - t), ← EReal.coe_neg, log1p_exp_coe,
    ← EReal.coe_strictMono.monotone.map_max, ← EReal.coe_add, ← max_add_log]
  rfl

/-- The step at a value that is minus infinity keeps the state. -/
theorem meet_bot {s : ℝ} (h₁ : lo ≤ s) (h₂ : s ≤ hi) : meet (s : EReal) ⊥ = (s : EReal) := by
  unfold meet
  rw [show ((s : EReal) - ⊥) = ⊤ from rfl]
  simp only [EReal.neg_top, bot_le, sup_of_le_left, log1p_exp_bot, add_zero]
  exact clip_of_mem h₁ h₂

/-- The step at a value that is plus infinity ends at the upper end. -/
theorem meet_top (s : ℝ) : meet (s : EReal) ⊤ = (hi : EReal) := by
  unfold meet
  rw [show ((s : EReal) - ⊤) = ⊥ from rfl]
  simp only [EReal.neg_bot, le_top, sup_of_le_right, EReal.neg_top, log1p_exp_bot, add_zero, clip_top]

/-- The clipped logarithm of a real total that is at least the start. -/
theorem clip_log_coe {r : ℝ} (h : expLo ≤ r) :
    clip (Ideal.log (r : EReal)) = ((min hi (Real.log r) : ℝ) : EReal) := by
  have h' : lo ≤ Real.log r := Real.log_le_log expLo_pos h
  rw [log_coe (expLo_pos.trans_le h), clip_coe, max_eq_right h']

/-- ONE STEP: meeting the value `t` turns the clipped logarithm of a total `a` into that of `a + exp t`. -/
theorem meet_clip_log (a t : EReal) (ha : (expLo : EReal) ≤ a) :
    meet (clip (Ideal.log a)) t = clip (Ideal.log (a + Ideal.exp t)) := by
  have hlh := lo_le_hi
  induction a using EReal.rec with
  | bot => exact absurd ha (by simp)
  | top =>
    rw [show Ideal.log ⊤ = ⊤ from rfl, clip_top]
    induction t using EReal.rec with
    | bot => rw [meet_bot hlh le_rfl, show Ideal.exp ⊥ = 0 from rfl, add_zero]; exact clip_top.symm
    | top => rw [meet_top, show Ideal.exp ⊤ = ⊤ from rfl]; exact clip_top.symm
    | coe t =>
      rw [show Ideal.exp (t : EReal) = ((Real.exp t : ℝ) : EReal) from rfl, EReal.top_add_coe,
        show Ideal.log ⊤ = ⊤ from rfl, clip_top, meet_coe, clip_coe]
      have h : hi ≤ Real.log (Real.exp hi + Real.exp t) := by
        rw [Real.le_log_iff_exp_le (by positivity)]
        have := Real.exp_pos t
        linarith
      rw [max_eq_right (hlh.trans h), min_eq_left h]
  | coe r =>
    have hr : expLo ≤ r := by exact_mod_cast ha
    have hr0 : 0 < r := expLo_pos.trans_le hr
    have hlog : lo ≤ Real.log r := Real.log_le_log expLo_pos hr
    rw [clip_log_coe hr]
    induction t using EReal.rec with
    | bot =>
      rw [meet_bot (le_min hlh hlog) (min_le_left _ _), show Ideal.exp ⊥ = 0 from rfl, add_zero, clip_log_coe hr]
    | top =>
      rw [meet_top, show Ideal.exp ⊤ = ⊤ from rfl, EReal.coe_add_top]; exact clip_top.symm
    | coe t =>
      have ht := Real.exp_pos t
      have hrt : expLo ≤ r + Real.exp t := by linarith
      have hlrt : lo ≤ Real.log (r + Real.exp t) := Real.log_le_log expLo_pos hrt
      rw [show Ideal.exp (t : EReal) = ((Real.exp t : ℝ) : EReal) from rfl, ← EReal.coe_add, clip_log_coe hrt,
        meet_coe, clip_coe]
      congr 1
      rcases le_total (Real.log r) hi with h | h
      · rw [min_eq_right h, Real.exp_log hr0, max_eq_right hlrt]
      · have h₁ : hi ≤ Real.log (Real.exp hi + Real.exp t) := by
          rw [Real.le_log_iff_exp_le (by positivity)]
          linarith
        have h₂ : hi ≤ Real.log (r + Real.exp t) := h.trans (Real.log_le_log hr0 (by linarith))
        rw [min_eq_left h, max_eq_right (hlh.trans h₁), min_eq_left h₁, min_eq_left h₂]

/-- The total never falls below its start. -/
theorem expLo_le_total (t : ℕ → EReal) : ∀ k, (expLo : EReal) ≤ total t k
  | 0 => le_rfl
  | k + 1 => by
    refine (expLo_le_total t k).trans ?_
    have h : (0 : EReal) ≤ Ideal.exp (t k) := by
      generalize t k = x
      induction x using EReal.rec with
      | bot => exact le_rfl
      | top => exact le_top
      | coe x => exact EReal.coe_nonneg.mpr (Real.exp_pos x).le
    exact le_add_of_nonneg_right h

/-- THE EQUATION: the streaming state is the clipped logarithm of the total, at every count. -/
theorem stream_eq (t : ℕ → EReal) : ∀ k, stream t k = clip (Ideal.log (total t k))
  | 0 => by
    show (lo : EReal) = clip (Ideal.log (expLo : EReal))
    rw [log_coe expLo_pos]
    exact (clip_of_mem le_rfl lo_le_hi).symm
  | k + 1 => by
    show meet (stream t k) (t k) = clip (Ideal.log (total t k + Ideal.exp (t k)))
    rw [stream_eq t k, meet_clip_log _ _ (expLo_le_total t k)]

/-- The quantised output of a value `x` against the state `s`, in sixteenths: the nearest integer (ties to even) of
    sixteen times the difference, held to eight signed bits. -/
def level (x s : EReal) : EReal :=
  min ((127 : ℝ) : EReal) (max ((-128 : ℝ) : EReal) (Ideal.liftRound Ideal.roundHalfEven ((x - s) * ((16 : ℝ) : EReal))))

end Cert.LogSum

end
-- ==== Proof.Consts.lean ====
/-
  What the 32-bit patterns of the two programs denote, as extended reals.
-/
module

public import proofs.«01_k».proof.Proof.Math

@[expose] public section

noncomputable section

namespace Cert.LogSum

open Idealize.ShloMosaic

theorem bits_expLo : Ideal.ofBits .f32 0x39AFE108#32 = (expLo : EReal) := by
  simp [Ideal.ofBits, Ideal.ieee, expLo, -EReal.coe_mul]; norm_num

theorem bits_hi : Ideal.ofBits .f32 0x40FE0000#32 = (hi : EReal) := by
  simp [Ideal.ofBits, Ideal.ieee, hi, -EReal.coe_mul]; norm_num

theorem bits_16 : Ideal.ofBits .f32 0x41800000#32 = ((16 : ℝ) : EReal) := by
  simp [Ideal.ofBits, Ideal.ieee, -EReal.coe_mul]; norm_num

theorem bits_sixteenth : Ideal.ofBits .f32 0x3D800000#32 = ((1 / 16 : ℝ) : EReal) := by
  simp [Ideal.ofBits, Ideal.ieee, -EReal.coe_mul]; norm_num

theorem bits_neg128 : Ideal.ofBits .f32 0xC3000000#32 = ((-128 : ℝ) : EReal) := by
  simp [Ideal.ofBits, Ideal.ieee, -EReal.coe_mul]; norm_num

theorem bits_127 : Ideal.ofBits .f32 0x42FE0000#32 = ((127 : ℝ) : EReal) := by
  simp [Ideal.ofBits, Ideal.ieee, -EReal.coe_mul]; norm_num

theorem bits_4096 : Ideal.ofBits .f32 0x45800000#32 = ((4096 : ℝ) : EReal) := by
  simp [Ideal.ofBits, Ideal.ieee, -EReal.coe_mul]; norm_num

theorem bits_32767 : Ideal.ofBits .f32 0x46FFFE00#32 = ((32767 : ℝ) : EReal) := by
  simp [Ideal.ofBits, Ideal.ieee, -EReal.coe_mul]; norm_num

theorem bits_65536 : Ideal.ofBits .f32 0x47800000#32 = ((65536 : ℝ) : EReal) := by
  simp [Ideal.ofBits, Ideal.ieee, -EReal.coe_mul]; norm_num

theorem bits_neg8 : Ideal.ofBits .f32 0xC1000000#32 = ((-8 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

end Cert.LogSum

end
-- ==== Proof.KernelBlock.lean ====
/-
  What the kernel's body leaves in its output block, element by element: the level of the input element against the
  clipped logarithm of its column's total, times one sixteenth.
-/
module

public import proofs.«01_k».proof.Proof.Consts
public import proofs.«01_k».proof.Proof.Gen.KernelIdeal.Frame
public import Idealize.ShloMosaic.Lib.Pipeline.ValueKit
public import Idealize.ShloMosaic.Lib.Pointwise
public import Idealize.ShloMosaic.Lib.WholeRead

@[expose] public section

set_option maxRecDepth 16384

noncomputable section

namespace Cert.KernelIdeal.Block

open Idealize.ShloMosaic Idealize.ShloMosaic.TcCoe Idealize.ShloMosaic.Tactic
open Idealize.SL Idealize.SL.Sem
open Cert.KernelIdeal Cert.KernelIdeal.Gen Cert.LogSum

/-- The values of a block's column at row `r` and lane `l`, in the order of the leading axis. -/
def column (x : Vec Ideal S256x32x384 .f32) (r : Fin 32) (l : Fin 384) (j : ℕ) : EReal :=
  if h : j < 256 then x (ix3 (⟨j, h⟩ : Fin 256) r l) else 0

/-- The loop makes 256 trips. -/
theorem trips_eq : k0_t1_loop.trips = 256 := by decide +kernel

section Trip

variable {F : FTy → Type} [FloatOps F] [Named F]

/-- One trip adds the exponential of the row block it loads to the carried sum. -/
theorem trip_eq (𝒱 : Variants) (c : Dev nD) (bd : Option 𝒱.V) (i : grid0.Coords)
    (arg1 : Memref sig .tc .vmem S256x32x384 .f32) (harg1 : arg1.IsWhole)
    (arg2 : Memref sig .tc .vmem S256x32x384 .f32) (harg2 : arg2.IsWhole)
    (X : BufTy.Contents (Elt F) arg1.view.ty) (k : Fin k0_t1_loop.trips) (acc : FVec F S32x384 .f32) :
    tripR_k0_t1 (F := F) 𝒱 c bd i arg1 harg1 arg2 harg2 X k acc
      = k0_pay2 acc (View.readAt (Elt F) arg1.view
          (Rect.unit (s := S256x32x384) (k0_off1 k) S1x32x384.size (k0_off1_inb k)).toLoadRect X) := by
  unfold tripR_k0_t1 trip_k0_t1
  rfl

/-- What the body leaves in its output block is its last payload, of the loop's last sum and the input block. -/
theorem out_eq (c : Dev nD) (i : grid0.Coords)
    (arg1 : Memref sig .tc .vmem S256x32x384 .f32) (harg1 : arg1.IsWhole)
    (arg2 : Memref sig .tc .vmem S256x32x384 .f32) (harg2 : arg2.IsWhole) (x0 : Vec F S256x32x384 .f32) :
    out0_A_1 c i arg1 harg1 arg2 harg2 x0
      = k0_pay3 (st_k0_t1 Variants.none c none i arg1 harg1 arg2 harg2 (harg1.unread x0) k0_pay1 256) x0 := by
  frame_out
  rfl

end Trip

/-- The carried sum before trip `k` is the column's total of `k` values. -/
theorem st_apply (𝒱 : Variants) (c : Dev nD) (bd : Option 𝒱.V) (i : grid0.Coords)
    (arg1 : Memref sig .tc .vmem S256x32x384 .f32) (harg1 : arg1.IsWhole)
    (arg2 : Memref sig .tc .vmem S256x32x384 .f32) (harg2 : arg2.IsWhole) (x0 : Vec Ideal S256x32x384 .f32)
    (r : Fin 32) (l : Fin 384) :
    ∀ k, k ≤ 256 → st_k0_t1 (F := Ideal) 𝒱 c bd i arg1 harg1 arg2 harg2 (harg1.unread x0) k0_pay1 k (ix2 r l)
      = total (column x0 r l) k
  | 0, _ => by
    rw [st_k0_t1_zero]
    exact bits_expLo
  | k + 1, hk => by
    have hk' : k < 256 := hk
    have ht : k < k0_t1_loop.trips := by rw [trips_eq]; exact hk'
    rw [st_k0_t1_succ (F := Ideal) 𝒱 c bd i arg1 harg1 arg2 harg2 (harg1.unread x0) k0_pay1 ⟨k, ht⟩, trip_eq,
      View.readAt_unit_congr_cast arg1.view (k0_off1_eq ⟨k, ht⟩)]
    have hrec := st_apply 𝒱 c bd i arg1 harg1 arg2 harg2 x0 r l k hk'.le
    show k0_pay2 (F := Ideal) _ _ (ix2 r l) = total (column x0 r l) k + Ideal.exp (column x0 r l k)
    rw [← hrec]
    pointwise [k0_pay2]
    congr 2
    rw [harg1.readAt_unread, column, dif_pos hk']
    congr 1
    funext a
    apply Fin.ext
    match a with
    | ⟨0, _⟩ => show k + 1 * 0 = k; omega
    | ⟨1, _⟩ => show 0 + 1 * r.val = r.val; omega
    | ⟨2, _⟩ => show 0 + 1 * l.val = l.val; omega

/-- The body's last payload at an index. -/
theorem pay3_apply (v : FVec Ideal S32x384 .f32) (x : Vec Ideal S256x32x384 .f32) (n : Fin 256) (r : Fin 32) (l : Fin 384) :
    k0_pay3 v x (ix3 n r l) = level (x (ix3 n r l)) (clip (Ideal.log (v (ix2 r l)))) * ((1 / 16 : ℝ) : EReal) := by
  have hq : Named.named (F := Ideal) κ "qmin" (φ := .f32) 0xC1000000#32 = (lo : EReal) := rfl
  pointwise [k0_pay3]
  rw [hq, bits_127, bits_neg128, bits_hi, bits_16, bits_sixteenth]
  rfl

end Cert.KernelIdeal.Block

end
-- ==== Proof.KernelValue.lean ====
/-
  What the kernel's arrays hold after the run: the array of the pipelined call, assembled from its blocks, and the result,
  which is that array under the four leading-axis batches and channels.
-/
module

public import proofs.«01_k».proof.Proof.KernelBlock

@[expose] public section

set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Block Cert.LogSum

/-- The flattened argument: batches and channels on one axis of 256. -/
def flat (x : Vec Ideal S4x64x384x384 .f32) : Vec Ideal S256x384x384 .f32 :=
  shapeCast S256x384x384 x shapeCasts_S4x64x384x384_S256x384x384

/-- The values met at row `h` and lane `w`, in the order of the leading axis. -/
def values (x : Vec Ideal S256x384x384 .f32) (h w : Fin 384) (j : ℕ) : EReal :=
  if hj : j < 256 then x (ix3 (⟨j, hj⟩ : Fin 256) h w) else 0

/-- The array of the pipelined call as a function of the flattened argument. -/
def called (x : Vec Ideal S256x384x384 .f32) : Vec Ideal S256x384x384 .f32 := fun i =>
  level (x i) (clip (Ideal.log (total (values x (i 1) (i 2)) 256))) * ((1 / 16 : ℝ) : EReal)

variable (m : (ℓ : Loc nD τ sig) → Buf (Elt Ideal) ℓ) (ρ : Dev nD → PrngReg)

theorem idx0 : ∀ t : Fin cfg0.N, win0_0.index t = ![0, (grid0.coords t 0).val, 0] :=
  (by decide +kernel : ∀ t : Fin grid0.N, _)

theorem idx1 : ∀ t : Fin cfg0.N, win0_1.index t = ![0, (grid0.coords t 0).val, 0] :=
  (by decide +kernel : ∀ t : Fin grid0.N, _)

/-- The region finds the flattened argument in its input array. -/
theorem entry (c : Dev nD) : V m c main_v0 = flat (m ((c.tc : Thread nD τ).loc main_arg0)) := by
  unfold V V0 flat
  simp only [List.flatten_cons, List.flatten_nil, List.append_nil]
  after_results
  rfl

/-- The pipelined call's array after the run. -/
theorem final_called (c : Dev nD) : (dats m 0 c).arrAt 1 cfg0.N = called (V m c main_v0) := by
  refine (dats m 0 c).arrAt_eq_of_covers 1 _ (by decide +kernel) fun t hf y => ?_
  blk_simp
  rw [after0_1]
  unfold outsAt0
  rw [out_eq]
  obtain ⟨n, r, l, rfl⟩ : ∃ (n : Fin 256) (r : Fin 32) (l : Fin 384), y = ix3 n r l := ⟨y 0, y 1, y 2, eq_ix3 y⟩
  rw [pay3_apply, st_apply _ _ _ _ _ _ _ _ _ r l 256 le_rfl]
  unfold called
  have e : ∀ j : Fin 256, iblk m c 0 t (ix3 j r l)
      = V m c main_v0 (ix3 j ((win0_1.blk t).view.emb (ix3 n r l) 1) ((win0_1.blk t).view.emb (ix3 n r l) 2)) := by
    intro j
    blk_simp [iblk]
    congr 1
    blk_ext [idx0 t, idx1 t]
  have ecol : column (iblk m c 0 t) r l
      = values (V m c main_v0) ((win0_1.blk t).view.emb (ix3 n r l) 1) ((win0_1.blk t).view.emb (ix3 n r l) 2) := by
    funext j
    unfold column values
    split
    · exact e _
    · rfl
  rw [ecol, e n]
  congr 3
  blk_ext [idx0 t, idx1 t]

/-- The kernel's result as a function of its argument. -/
def result (x : Vec Ideal S4x64x384x384 .f32) : Vec Ideal S4x64x384x384 .f32 :=
  shapeCast S4x64x384x384 (called (flat x)) shapeCasts_S256x384x384_S4x64x384x384

/-- The lines after the region leave the pipelined call's array, reshaped, in the result. -/
theorem tail (c : Dev nD) :
    Pipeline.afterTail₀ cfgs (dats m) 0 (V0 m) [hostOps1] c main_v2
      = result (m ((c.tc : Thread nD τ).loc main_arg0)) := by
  unfold Pipeline.afterTail₀
  simp only [List.flatten_cons, List.flatten_nil, List.append_nil]
  after_results
  have hw : Pipeline.withArrays (cfgs 0).spec c (V0 m c) (fun w => (dats m 0 c).arrAt w (cfgs 0).N) (Proc.devRef .tc main_v1)
      = called (flat (m ((c.tc : Thread nD τ).loc main_arg0))) :=
    (Pipeline.withArrays_arr (cfgs 0).spec launch0.win.arr_inj c (V0 m c) _ 1).trans
      ((final_called m c).trans (congrArg called (entry m c)))
  rw [hw]
  rfl

/-- The kernel runs, ends with its result in place and its argument unchanged. -/
theorem run : θ_run defs (onTc (τ := τ) (main (F := Ideal))) ⟨m, fun _ => 0, ρ⟩ (fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (tail m c),
      ((h c).2 main_arg0 (Pipeline.mem_restRefs_of main_arg0 (by decide) (by decide))).trans (W_main_arg0 m (dats m) c)⟩)
    (run_main m ρ)

end Cert.KernelIdeal.Value

end
-- ==== Proof.RefValue.lean ====
/-
  What the reference's loop computes at each row and lane, and its result element by element.
-/
module

public import proofs.«01_k».proof.Proof.Consts
public import proofs.«01_k».proof.Proof.Gen.ReferenceIdeal.StepRun
public import Idealize.ShloMosaic.Lib.Pointwise
public import Idealize.ShloMosaic.Lib.Quiescent

@[expose] public section

set_option maxRecDepth 16384

noncomputable section

namespace Cert.ReferenceIdeal.Stream

open Idealize.ShloMosaic Idealize.ShloMosaic.TcCoe Idealize.SL.Sem
open Cert.ReferenceIdeal Cert.ReferenceIdeal.Gen Cert.ReferenceIdeal.Step Cert.LogSum

/-- The loop's states from the argument `x`. -/
def states (x : (⟨S4x64x384x384, .f32⟩ : BufTy).Contents (Elt Ideal)) : ℕ → State Ideal
  | 0 => init x
  | n + 1 => step n (states x n)

/-- The array the loop reads is the flattened argument at every state. -/
theorem states_array (x : (⟨S4x64x384x384, .f32⟩ : BufTy).Contents (Elt Ideal)) :
    ∀ n, (states x n).main_v3_0 = A_main_v0 x
  | 0 => rfl
  | n + 1 => states_array x n

/-- The values met at row `h` and lane `w` of a flattened argument, in the order of the leading axis. -/
def values (x : (⟨S256x384x384, .f32⟩ : BufTy).Contents (Elt Ideal)) (h w : Fin 384) (j : ℕ) : EReal :=
  if hj : j < 256 then x (ix3 (⟨j, hj⟩ : Fin 256) h w) else 0

/-- The row the loop reads at trip `j` starts at `j`. -/
theorem start_eq : ∀ j : Fin 256, (min (max (BitVec.ofNat 32 j.val).toInt 0) ((256 - 1 : ℕ) : ℤ)).toNat = j.val := by
  decide +kernel

/-- Trip `j` reads row block `j` of the state's array. -/
theorem slab_apply (j : ℕ) (hj : j < 256) (s : State Ideal) (h w : Fin 384) :
    b3 j s (ix2 h w) = s.main_v3_0 (ix3 (⟨j, hj⟩ : Fin 256) h w) := by
  pointwise [b3, b2]
  congr 1
  funext a
  apply Fin.ext
  match a with
  | ⟨0, _⟩ => exact start_eq ⟨j, hj⟩
  | ⟨1, _⟩ =>
    show (min (max (BitVec.toInt (0#32 : BitVec 32)) 0) ((384 - 384 : ℕ) : ℤ)).toNat + h.val = h.val
    simp
  | ⟨2, _⟩ =>
    show (min (max (BitVec.toInt (0#32 : BitVec 32)) 0) ((384 - 384 : ℕ) : ℤ)).toNat + w.val = w.val
    simp

/-- The trip's new running sum at a row and lane is one step of the streaming form. -/
theorem sum_apply (j : ℕ) (s : State Ideal) (h w : Fin 384) :
    b15 j s (ix2 h w) = meet (s.main_v3_3 (ix2 h w)) (b3 j s (ix2 h w)) := by
  pointwise [b15, b14, b13, b12, b11, b10, b9, b8, b7, b6, b5, b4, K_main_v2, K_main_v1, K_main_cst]
  rw [bits_hi, bits_expLo, log_coe expLo_pos]
  rfl

/-- The running sum before trip `n` is the streaming form's state after `n` values. -/
theorem states_apply (x : (⟨S4x64x384x384, .f32⟩ : BufTy).Contents (Elt Ideal)) (h w : Fin 384) :
    ∀ n, n ≤ 256 → (states x n).main_v3_3 (ix2 h w) = stream (values (A_main_v0 x) h w) n
  | 0, _ => by
    show K_main_v2 (F := Ideal) (ix2 h w) = (lo : EReal)
    pointwise [K_main_v2, K_main_v1, K_main_cst]
    rw [bits_expLo, log_coe expLo_pos]
    rfl
  | n + 1, hn => by
    have hn' : n < 256 := hn
    show b15 n (states x n) (ix2 h w) = meet (stream (values (A_main_v0 x) h w) n) (values (A_main_v0 x) h w n)
    rw [sum_apply, slab_apply n hn', states_apply x h w n hn'.le, states_array, values, dif_pos hn']

/-- The integer bounds of the output's clip, as extended reals. -/
theorem int_127 : FloatOps.sitofp (F := Ideal) .f32 (127#32 : BitVec 32) = ((127 : ℝ) : EReal) := by
  show (((BitVec.toInt (127#32 : BitVec 32) : ℤ) : ℝ) : EReal) = _
  rw [show BitVec.toInt (127#32 : BitVec 32) = 127 by decide]
  norm_num

theorem int_neg128 : FloatOps.sitofp (F := Ideal) .f32 (4294967168#32 : BitVec 32) = ((-128 : ℝ) : EReal) := by
  show (((BitVec.toInt (4294967168#32 : BitVec 32) : ℤ) : ℝ) : EReal) = _
  rw [show BitVec.toInt (4294967168#32 : BitVec 32) = -128 by decide]
  norm_num

/-- The reference's result at an index: the level of the argument's element against the final running sum, over sixteen. -/
theorem out_apply (s : State Ideal) (x : (⟨S4x64x384x384, .f32⟩ : BufTy).Contents (Elt Ideal)) (b : Fin 4) (c : Fin 64) (h w : Fin 384) :
    R_main_v12 s x (ix4 b c h w) = level (x (ix4 b c h w)) (s.main_v3_3 (ix2 h w)) * ((1 / 16 : ℝ) : EReal) := by
  pointwise [R_main_v12]
  rw [int_127, int_neg128, bits_16, Ideal.div_coe (by norm_num)]
  rfl

/-- The reference's result as a function of its argument. -/
def result (x : (⟨S4x64x384x384, .f32⟩ : BufTy).Contents (Elt Ideal)) :
    (⟨S4x64x384x384, .f32⟩ : BufTy).Contents (Elt Ideal) := R_main_v12 (states x 256) x

/-- That function, element by element: the clipped logarithm of the column's total in the place of the running sum. -/
theorem result_apply (x : (⟨S4x64x384x384, .f32⟩ : BufTy).Contents (Elt Ideal)) (b : Fin 4) (c : Fin 64) (h w : Fin 384) :
    result x (ix4 b c h w)
      = level (x (ix4 b c h w)) (clip (Ideal.log (total (values (A_main_v0 x) h w) 256))) * ((1 / 16 : ℝ) : EReal) := by
  rw [result, out_apply, states_apply x h w 256 le_rfl, stream_eq]

variable (m : (ℓ : Loc nD τ sig) → Buf (Elt Ideal) ℓ) (ρ : Dev nD → PrngReg)

/-- The reference runs, ends with its result in place and its argument unchanged. -/
theorem run : θ_run (defs (F := Ideal)) (onTc (τ := τ) (main (F := Ideal))) ⟨m, fun _ => 0, ρ⟩ (fun r => ∀ c : Dev nD,
      r.2.mem ((c.tc : Thread nD τ).loc main_v12) = result (m ((c.tc : Thread nD τ).loc main_arg0))
      ∧ r.2.mem ((c.tc : Thread nD τ).loc main_arg0) = m ((c.tc : Thread nD τ).loc main_arg0)) :=
  StepRun.run_iter (F := Ideal) m ρ (fun c => states (m ((c.tc : Thread nD τ).loc main_arg0))) (fun _ => rfl) (fun _ _ => rfl)

end Cert.ReferenceIdeal.Stream

end
-- ==== Proof.Equation.lean ====
/-
  The kernel's result and the reference's are one function of the argument.
-/
module

public import proofs.«01_k».proof.Proof.KernelValue
public import proofs.«01_k».proof.Proof.RefValue

@[expose] public section

set_option maxRecDepth 16384

noncomputable section

namespace Cert.LogSum

open Idealize.ShloMosaic Idealize.ShloMosaic.Tactic

/-- The flattened argument's channel `b * 64 + c` is the argument's batch `b`, channel `c`. -/
theorem flat_apply (x : Vec Ideal Cert.KernelIdeal.S4x64x384x384 .f32) (b : Fin 4) (c : Fin 64) (h w : Fin 384) :
    Cert.KernelIdeal.Value.flat x (ix3 (⟨b.val * 64 + c.val, by omega⟩ : Fin 256) h w) = x (ix4 b c h w) := by
  pointwise [Cert.KernelIdeal.Value.flat]

/-- The kernel's result, element by element. -/
theorem kernel_apply (x : Vec Ideal Cert.KernelIdeal.S4x64x384x384 .f32) (b : Fin 4) (c : Fin 64) (h w : Fin 384) :
    Cert.KernelIdeal.Value.result x (ix4 b c h w)
      = Cert.KernelIdeal.Value.called (Cert.KernelIdeal.Value.flat x) (ix3 (⟨b.val * 64 + c.val, by omega⟩ : Fin 256) h w) := by
  pointwise [Cert.KernelIdeal.Value.result]

/-- The reference's result is the kernel's. -/
theorem results_eq (x : Vec Ideal Cert.KernelIdeal.S4x64x384x384 .f32) :
    Cert.ReferenceIdeal.Stream.result x = Cert.KernelIdeal.Value.result x := by
  funext i
  obtain ⟨b, c, h, w, rfl⟩ : ∃ (b : Fin 4) (c : Fin 64) (h w : Fin 384), i = ix4 b c h w := ⟨i 0, i 1, i 2, i 3, eq_ix4 i⟩
  rw [kernel_apply, Cert.ReferenceIdeal.Stream.result_apply, Cert.KernelIdeal.Value.called, flat_apply]
  rfl

end Cert.LogSum

end
-- ==== Proof.BothKernel.lean ====
/-
  The kernel half of the program that runs the kernel beside the reference with the table: what the call's body leaves in its
  output block, what the call's array holds, and that nothing after it touches the result.
-/
module

public import proofs.«01_k».proof.Proof.KernelValue
public import proofs.«01_k».proof.Proof.Gen.BothIdeal.Frame

@[expose] public section

set_option maxRecDepth 16384

noncomputable section

namespace Cert.BothIdeal.Beside

open Idealize.ShloMosaic Idealize.ShloMosaic.TcCoe Idealize.ShloMosaic.Tactic
open Idealize.SL Idealize.SL.Sem
open Idealize.ShloMosaic.Pipeline (Dat Cfg Window)
open Cert.BothIdeal Cert.BothIdeal.Gen Cert.LogSum
open Cert.KernelIdeal.Block (column)
open Cert.KernelIdeal.Value (flat values called result)

/-- The loop makes 256 trips. -/
theorem trips_eq : k0_t1_loop.trips = 256 := by decide +kernel

section Trip

variable {F : FTy → Type} [FloatOps F] [Named F]

/-- One trip adds the exponential of the row block it loads to the carried sum. -/
theorem trip_eq (𝒱 : Variants) (c : Dev nD) (bd : Option 𝒱.V) (i : grid0.Coords)
    (arg1 : Memref sig .tc .vmem S256x32x384 .f32) (harg1 : arg1.IsWhole)
    (arg2 : Memref sig .tc .vmem S256x32x384 .f32) (harg2 : arg2.IsWhole)
    (X : BufTy.Contents (Elt F) arg1.view.ty) (k : Fin k0_t1_loop.trips) (acc : FVec F S32x384 .f32) :
    tripR_k0_t1 (F := F) 𝒱 c bd i arg1 harg1 arg2 harg2 X k acc
      = k0_pay2 acc (View.readAt (Elt F) arg1.view
          (Rect.unit (s := S256x32x384) (k0_off1 k) S1x32x384.size (k0_off1_inb k)).toLoadRect X) := by
  unfold tripR_k0_t1 trip_k0_t1
  rfl

/-- What the body leaves in its output block is its last payload, of the loop's last sum and the input block. -/
theorem out_eq (c : Dev nD) (i : grid0.Coords)
    (arg1 : Memref sig .tc .vmem S256x32x384 .f32) (harg1 : arg1.IsWhole)
    (arg2 : Memref sig .tc .vmem S256x32x384 .f32) (harg2 : arg2.IsWhole) (x0 : Vec F S256x32x384 .f32) :
    out0_A_1 c i arg1 harg1 arg2 harg2 x0
      = k0_pay3 (st_k0_t1 Variants.none c none i arg1 harg1 arg2 harg2 (harg1.unread x0) k0_pay1 256) x0 := by
  frame_out
  rfl

end Trip

/-- The carried sum before trip `k` is the column's total of `k` values. -/
theorem st_apply (𝒱 : Variants) (c : Dev nD) (bd : Option 𝒱.V) (i : grid0.Coords)
    (arg1 : Memref sig .tc .vmem S256x32x384 .f32) (harg1 : arg1.IsWhole)
    (arg2 : Memref sig .tc .vmem S256x32x384 .f32) (harg2 : arg2.IsWhole) (x0 : Vec Ideal S256x32x384 .f32)
    (r : Fin 32) (l : Fin 384) :
    ∀ k, k ≤ 256 → st_k0_t1 (F := Ideal) 𝒱 c bd i arg1 harg1 arg2 harg2 (harg1.unread x0) k0_pay1 k (ix2 r l)
      = total (column x0 r l) k
  | 0, _ => by
    rw [st_k0_t1_zero]
    exact bits_expLo
  | k + 1, hk => by
    have hk' : k < 256 := hk
    have ht : k < k0_t1_loop.trips := by rw [trips_eq]; exact hk'
    rw [st_k0_t1_succ (F := Ideal) 𝒱 c bd i arg1 harg1 arg2 harg2 (harg1.unread x0) k0_pay1 ⟨k, ht⟩, trip_eq,
      View.readAt_unit_congr_cast arg1.view (k0_off1_eq ⟨k, ht⟩)]
    have hrec := st_apply 𝒱 c bd i arg1 harg1 arg2 harg2 x0 r l k hk'.le
    show k0_pay2 (F := Ideal) _ _ (ix2 r l) = total (column x0 r l) k + Ideal.exp (column x0 r l k)
    rw [← hrec]
    pointwise [k0_pay2]
    congr 2
    rw [harg1.readAt_unread, column, dif_pos hk']
    congr 1
    funext a
    apply Fin.ext
    match a with
    | ⟨0, _⟩ => show k + 1 * 0 = k; omega
    | ⟨1, _⟩ => show 0 + 1 * r.val = r.val; omega
    | ⟨2, _⟩ => show 0 + 1 * l.val = l.val; omega

/-- The body's last payload at an index. -/
theorem pay3_apply (v : FVec Ideal S32x384 .f32) (x : Vec Ideal S256x32x384 .f32) (n : Fin 256) (r : Fin 32) (l : Fin 384) :
    k0_pay3 v x (ix3 n r l) = level (x (ix3 n r l)) (clip (Ideal.log (v (ix2 r l)))) * ((1 / 16 : ℝ) : EReal) := by
  have hq : Named.named (F := Ideal) κ "qmin" (φ := .f32) 0xC1000000#32 = (lo : EReal) := rfl
  pointwise [k0_pay3]
  rw [hq, bits_127, bits_neg128, bits_hi, bits_16, bits_sixteenth]
  rfl

variable (m : (ℓ : Loc nD τ sig) → Buf (Elt Ideal) ℓ) (ρ : Dev nD → PrngReg)

theorem idx0 : ∀ t : Fin cfg0.N, win0_0.index t = ![0, (grid0.coords t 0).val, 0] :=
  (by decide +kernel : ∀ t : Fin grid0.N, _)

theorem idx1 : ∀ t : Fin cfg0.N, win0_1.index t = ![0, (grid0.coords t 0).val, 0] :=
  (by decide +kernel : ∀ t : Fin grid0.N, _)

/-- The call finds the flattened argument in its input array. -/
theorem entry (c : Dev nD) : V1 m ρ c main_v0 = flat (m ((c.tc : Thread nD τ).loc main_arg0)) := by
  unfold flat
  show StableHlo.after hostOps0 (W0 m ρ c) (Proc.devRef .tc main_v0) = _
  after_results
  rfl

/-- The call's array after the run. -/
theorem final_called (c : Dev nD) : (dat0 (V1 m ρ) c).arrAt 1 cfg0.N = called (V1 m ρ c main_v0) := by
  refine (dat0 (V1 m ρ) c).arrAt_eq_of_covers 1 _ (by decide +kernel) fun t hf y => ?_
  blk_simp
  rw [after0_1]
  unfold outsAt0
  rw [out_eq]
  obtain ⟨n, r, l, rfl⟩ : ∃ (n : Fin 256) (r : Fin 32) (l : Fin 384), y = ix3 n r l := ⟨y 0, y 1, y 2, eq_ix3 y⟩
  rw [pay3_apply, st_apply _ _ _ _ _ _ _ _ _ r l 256 le_rfl]
  unfold called
  have e : ∀ j : Fin 256, iblk0 (V1 m ρ) c 0 t (ix3 j r l)
      = V1 m ρ c main_v0 (ix3 j ((win0_1.blk t).view.emb (ix3 n r l) 1) ((win0_1.blk t).view.emb (ix3 n r l) 2)) := by
    intro j
    blk_simp [iblk0]
    congr 1
    blk_ext [idx0 t, idx1 t]
  have ecol : column (iblk0 (V1 m ρ) c 0 t) r l
      = values (V1 m ρ c main_v0) ((win0_1.blk t).view.emb (ix3 n r l) 1) ((win0_1.blk t).view.emb (ix3 n r l) 2) := by
    funext j
    unfold column values
    split
    · exact e _
    · rfl
  rw [ecol, e n]
  congr 3
  blk_ext [idx0 t, idx1 t]

/-- At the loop's entry the result holds the kernel's function of the argument. -/
theorem result_entry (c : Dev nD) :
    W3 m ρ c (Proc.devRef .tc main_v2) = result (m ((c.tc : Thread nD τ).loc main_arg0)) := by
  show StableHlo.after hostOps1 (W2 m ρ c) (Proc.devRef .tc main_v2) = _
  after_results
  have hw : W2 m ρ c (Proc.devRef .tc main_v1) = called (flat (m ((c.tc : Thread nD τ).loc main_arg0))) :=
    (W2_arr m ρ c 1).trans ((final_called m ρ c).trans (congrArg called (entry m ρ c)))
  rw [hw]
  rfl

/-- A buffer that neither the condition nor the body of the host loop writes keeps its contents at every trip. -/
theorem loop_keeps (c : Dev nD) (a : Ref sig .tc) (hc : a ∉ condOps_W) (h0 : a ∉ while0Ops0_W) (h1 : a ∉ while0Ops0_1_W)
    (h2 : a ∉ while0Ops0_2_W) (h3 : a ∉ while0Ops0_3_W) (h4 : a ∉ while0Ops0_4_W) (h5 : a ∉ while0Ops0_5_W) :
    ∀ k, Wk m ρ k c (Proc.devRef .tc a) = Went m ρ c (Proc.devRef .tc a)
  | 0 => rfl
  | k + 1 => by
    rw [show Wk m ρ (k + 1) c = StableHlo.afterL bodyI (StableHlo.after condOps (Wk m ρ k c)) from rfl]
    simp only [StableHlo.afterL_cons, StableHlo.afterL_nil]
    rw [StableHlo.after_of_writes_sub while0Ops0_5 _ while0Ops0_5_writes h5,
      StableHlo.after_of_writes_sub while0Ops0_4 _ while0Ops0_4_writes h4,
      StableHlo.after_of_writes_sub while0Ops0_3 _ while0Ops0_3_writes h3,
      StableHlo.after_of_writes_sub while0Ops0_2 _ while0Ops0_2_writes h2,
      StableHlo.after_of_writes_sub while0Ops0_1 _ while0Ops0_1_writes h1,
      StableHlo.after_of_writes_sub while0Ops0 _ while0Ops0_writes h0,
      StableHlo.after_of_writes_sub condOps _ condOps_writes hc]
    exact loop_keeps c a hc h0 h1 h2 h3 h4 h5 k

/-- At the end the first result holds the kernel's function of the argument. -/
theorem result_final (c : Dev nD) :
    WN m ρ c (Proc.devRef .tc main_v2) = result (m ((c.tc : Thread nD τ).loc main_arg0)) := by
  rw [WN_eq, W9_of m ρ c main_v2 (by decide), W8_of m ρ c main_v2 (by decide), W7_of m ρ c main_v2 (by decide),
    W6_of m ρ c main_v2 (by decide), W5_of m ρ c main_v2 (by decide)]
  refine (StableHlo.after_of_writes_sub condOps _ condOps_writes (by decide)).trans ?_
  refine (loop_keeps m ρ c main_v2 (by decide) (by decide) (by decide) (by decide) (by decide) (by decide) (by decide)
    nT).trans ?_
  exact result_entry m ρ c

end Cert.BothIdeal.Beside

end
-- ==== Proof.Drift.lean ====
/-
  The streaming log-sum with the correction term read from a table of finite resolution stays, over `k` values, within
  `1 / 1000 + k / 2500` of the exact one, whatever the values are (the infinities included); after 256 values the two
  quantised outputs are at most two levels apart.
-/
module

public import proofs.«01_k».proof.Proof.Math
public import Mathlib.Analysis.Complex.Exponential

@[expose] public section

noncomputable section

namespace Cert.LogSum

open Idealize.ShloMosaic

/-- The table's answer at the distance `d`: the distance is rounded down to `1/4096`, held at the last entry, and the
    correction term there is rounded to `1/65536`. -/
def table (d : EReal) : EReal :=
  Ideal.div (Ideal.liftRound Ideal.roundHalfEven (Ideal.log1p (Ideal.exp (-(Ideal.div
    (min (Ideal.liftRound Int.floor (d * ((4096 : ℝ) : EReal))) ((32767 : ℝ) : EReal)) ((4096 : ℝ) : EReal))))
      * ((65536 : ℝ) : EReal))) ((65536 : ℝ) : EReal)

/-- One step of the streaming form with the table. -/
def tableMeet (s t : EReal) : EReal :=
  min (hi : EReal) (max ((-8 : ℝ) : EReal) (max s t + table (max (s - t) (-(s - t)))))

/-- The state with the table after the first `k` values. -/
def tableStream (t : ℕ → EReal) : ℕ → EReal
  | 0 => ((-8 : ℝ) : EReal)
  | k + 1 => tableMeet (tableStream t k) (t k)

/-- The exact correction term at the real distance `q`. -/
def corr (q : ℝ) : ℝ := Real.log (1 + Real.exp (-q))

/-- The correction term at `q`, rounded to the table's output grid. -/
def entry (q : ℝ) : ℝ := (Ideal.roundHalfEven (corr q * 65536) : ℝ) / 65536

/-- The distance at which the table answers for the real distance `d`. -/
def gridded (d : ℝ) : ℝ := min (⌊d * 4096⌋ : ℝ) 32767 / 4096

/-- Rounding to the nearest integer moves a number by at most one half. -/
theorem roundHalfEven_near (r : ℝ) : |(Ideal.roundHalfEven r : ℝ) - r| ≤ 1 / 2 := by
  have h₁ := Int.floor_le r
  have h₂ := Int.lt_floor_add_one r
  unfold Ideal.roundHalfEven
  dsimp only
  rw [abs_le]
  split_ifs <;> push_cast <;> constructor <;> linarith

theorem entry_near (q : ℝ) : |entry q - corr q| ≤ 1 / 131072 := by
  have h := roundHalfEven_near (corr q * 65536)
  unfold entry
  rw [abs_le] at h ⊢
  constructor <;> linarith [h.1, h.2]

/-- A quotient of reals. -/
theorem div_real (x : ℝ) {y : ℝ} (h : y ≠ 0) : Ideal.div (x : EReal) (y : EReal) = ((x / y : ℝ) : EReal) := by
  rw [Ideal.div_coe h, ← EReal.coe_mul, mul_one_div]

/-- The table's answer at a real distance. -/
theorem table_coe (d : ℝ) : table (d : EReal) = (entry (gridded d) : EReal) := by
  unfold table
  rw [← EReal.coe_mul, Ideal.liftRound_coe, ← EReal.coe_strictMono.monotone.map_min, div_real _ (by norm_num),
    ← EReal.coe_neg, log1p_exp_coe, ← EReal.coe_mul, Ideal.liftRound_coe, div_real _ (by norm_num)]
  rfl

/-- The table's answer at an infinite distance is its last entry. -/
theorem table_top : table ⊤ = (entry (32767 / 4096) : EReal) := by
  unfold table
  rw [EReal.top_mul_coe_of_pos (by norm_num), Ideal.liftRound_top, min_eq_right le_top, div_real _ (by norm_num),
    ← EReal.coe_neg, log1p_exp_coe, ← EReal.coe_mul, Ideal.liftRound_coe, div_real _ (by norm_num)]
  rfl

theorem corr_nonneg (q : ℝ) : 0 ≤ corr q :=
  Real.log_nonneg (by linarith [Real.exp_pos (-q)])

theorem corr_le_exp (q : ℝ) : corr q ≤ Real.exp (-q) := by
  have h := Real.log_le_sub_one_of_pos (x := 1 + Real.exp (-q)) (by positivity)
  unfold corr
  linarith

theorem corr_antitone {p q : ℝ} (h : p ≤ q) : corr q ≤ corr p :=
  Real.log_le_log (by positivity) (by linarith [Real.exp_le_exp.mpr (neg_le_neg h)])

/-- The correction term falls no faster than the distance grows. -/
theorem corr_sub_le {p q : ℝ} (h : p ≤ q) : corr p - corr q ≤ q - p := by
  have h₁ : 1 + Real.exp (-p) ≤ Real.exp (q - p) * (1 + Real.exp (-q)) := by
    rw [mul_add, mul_one, ← Real.exp_add, show q - p + -q = -p by ring]
    have := Real.one_le_exp (sub_nonneg.mpr h)
    linarith
  have h₂ : corr p ≤ Real.log (Real.exp (q - p) * (1 + Real.exp (-q))) := Real.log_le_log (by positivity) h₁
  rw [Real.log_mul (by positivity) (by positivity), Real.log_exp] at h₂
  unfold corr at h₂ ⊢
  linarith

/-- Seven digits of the base of the exponential. -/
theorem exp_one_near : |Real.exp 1 - 27182818 / 10000000| ≤ 1 / 5000000 := by
  have h := Real.exp_bound (x := 1) (by norm_num) (n := 11) (by norm_num)
  norm_num [Finset.sum_range_succ, Nat.factorial] at h
  rw [abs_le] at h ⊢
  constructor <;> linarith [h.1, h.2]

theorem exp_eight_ge : 2900 ≤ Real.exp 8 := by
  rw [show (8 : ℝ) = ((8 : ℕ) : ℝ) * 1 by norm_num, Real.exp_nat_mul]
  have h : (2.718 : ℝ) ≤ Real.exp 1 := by linarith [(abs_le.mp exp_one_near).1]
  calc (2900 : ℝ) ≤ 2.718 ^ 8 := by norm_num
    _ ≤ Real.exp 1 ^ 8 := pow_le_pow_left₀ (by norm_num) h 8

/-- At the table's last entry the correction term is below `1 / 2800`. -/
theorem corr_last : corr (32767 / 4096) ≤ 1 / 2800 := by
  refine (corr_le_exp _).trans ?_
  rw [Real.exp_neg, inv_eq_one_div]
  refine one_div_le_one_div_of_le (by norm_num) ?_
  have h₁ : Real.exp 8 * Real.exp (-(1 / 4096)) = Real.exp (32767 / 4096) := by
    rw [← Real.exp_add]; norm_num
  have h₂ : (4095 / 4096 : ℝ) ≤ Real.exp (-(1 / 4096)) := by
    have := Real.add_one_le_exp (-(1 / 4096 : ℝ))
    linarith
  have h₃ := exp_eight_ge
  rw [← h₁]
  nlinarith

/-- THE TABLE'S ERROR: at any distance its answer is within `1 / 2500` of the correction term. -/
theorem table_error {d : ℝ} : |entry (gridded d) - corr d| ≤ 1 / 2500 := by
  have h₀ := entry_near (gridded d)
  have h₁ : |corr (gridded d) - corr d| ≤ 1 / 2800 := by
    have f₁ := Int.floor_le (d * 4096)
    have f₂ := Int.lt_floor_add_one (d * 4096)
    rcases le_total (⌊d * 4096⌋ : ℝ) 32767 with h | h
    · have e : gridded d = (⌊d * 4096⌋ : ℝ) / 4096 := by unfold gridded; rw [min_eq_left h]
      have hle : gridded d ≤ d := by rw [e]; linarith
      have hge : d - gridded d ≤ 1 / 4096 := by rw [e]; linarith
      have := corr_sub_le hle
      have := corr_antitone hle
      rw [abs_le]; constructor <;> linarith
    · have e : gridded d = 32767 / 4096 := by unfold gridded; rw [min_eq_right h]
      have hle : (32767 / 4096 : ℝ) ≤ d := by linarith
      have := corr_antitone hle
      have := corr_nonneg d
      have := corr_last
      rw [e, abs_le]; constructor <;> linarith
  rw [abs_le] at h₀ h₁ ⊢
  constructor <;> linarith [h₀.1, h₀.2, h₁.1, h₁.2]

/-- The table's last entry is within `1 / 2500` of nothing. -/
theorem last_small : |entry (32767 / 4096)| ≤ 1 / 2500 := by
  have h₀ := entry_near (32767 / 4096)
  have h₁ := corr_last
  have h₂ := corr_nonneg (32767 / 4096)
  rw [abs_le] at h₀ ⊢
  constructor <;> linarith [h₀.1, h₀.2]

/-- The logarithm of a sum of two exponentials moves no more than one of its terms. -/
theorem logsum_near (a b t : ℝ) :
    |Real.log (Real.exp a + Real.exp t) - Real.log (Real.exp b + Real.exp t)| ≤ |a - b| := by
  have key : ∀ a b : ℝ, Real.log (Real.exp a + Real.exp t) ≤ Real.log (Real.exp b + Real.exp t) + |a - b| := by
    intro a b
    have h : Real.exp a + Real.exp t ≤ (Real.exp b + Real.exp t) * Real.exp |a - b| := by
      have h₁ : Real.exp a ≤ Real.exp b * Real.exp |a - b| := by
        rw [← Real.exp_add]; exact Real.exp_le_exp.mpr (by linarith [le_abs_self (a - b)])
      have h₂ : 1 ≤ Real.exp |a - b| := Real.one_le_exp (abs_nonneg _)
      nlinarith [Real.exp_pos t]
    have := Real.log_le_log (by positivity) h
    rwa [Real.log_mul (by positivity) (by positivity), Real.log_exp] at this
  have h₁ := key a b
  have h₂ := key b a
  rw [abs_sub_comm b a] at h₂
  rw [abs_le]; constructor <;> linarith

/-- The two programs' lower ends are within `1 / 1000`. -/
theorem lo_near : |(-8 : ℝ) - lo| ≤ 1 / 1000 := by
  have e : lo = Real.log (expLo * Real.exp 8) - 8 := by
    rw [Real.log_mul expLo_pos.ne' (Real.exp_pos 8).ne', Real.log_exp]; unfold lo; ring
  have x : Real.exp 8 = Real.exp 1 ^ 8 := by
    rw [show (8 : ℝ) = ((8 : ℕ) : ℝ) * 1 by norm_num, Real.exp_nat_mul]
  have u : Real.exp 8 ≤ 2.718282 ^ 8 := by
    rw [x]; exact pow_le_pow_left₀ (Real.exp_pos 1).le (by linarith [(abs_le.mp exp_one_near).2]) 8
  have l : 2.718281 ^ 8 ≤ Real.exp 8 := by
    rw [x]; exact pow_le_pow_left₀ (by norm_num) (by linarith [(abs_le.mp exp_one_near).1]) 8
  have hp : 0 < expLo * Real.exp 8 := mul_pos expLo_pos (Real.exp_pos 8)
  have hu : expLo * Real.exp 8 ≤ 1 + 1 / 2000 := by
    refine (mul_le_mul_of_nonneg_left u expLo_pos.le).trans ?_
    norm_num [expLo]
  have hl : 1 - 1 / 2000 ≤ expLo * Real.exp 8 := by
    refine le_trans ?_ (mul_le_mul_of_nonneg_left l expLo_pos.le)
    norm_num [expLo]
  have h₁ := Real.log_le_sub_one_of_pos hp
  have h₂ : -(1 / 1000) ≤ Real.log (expLo * Real.exp 8) := by
    have h := Real.log_le_sub_one_of_pos (inv_pos.mpr hp)
    rw [Real.log_inv] at h
    have h' : (expLo * Real.exp 8)⁻¹ ≤ 2000 / 1999 :=
      (inv_anti₀ (by norm_num) hl).trans (by norm_num)
    linarith
  rw [e, abs_le]; constructor <;> linarith

/-- Clipping two numbers to ranges with one upper end moves them apart by no more than the lower ends are. -/
theorem clip_near (p q x y : ℝ) : |min hi (max p x) - min hi (max q y)| ≤ max |p - q| |x - y| := by
  refine (abs_min_sub_min_le_max hi (max p x) hi (max q y)).trans ?_
  rw [sub_self, abs_zero, max_eq_right (abs_nonneg _)]
  exact abs_max_sub_max_le_max p x q y

/-- The step with the table at real numbers. -/
theorem tableMeet_coe (s t : ℝ) :
    tableMeet (s : EReal) (t : EReal) = ((min hi (max (-8) (max s t + entry (gridded |s - t|))) : ℝ) : EReal) := by
  unfold tableMeet
  rw [show ((s : EReal) - (t : EReal)) = ((s - t : ℝ) : EReal) by push_cast; rfl, ← EReal.coe_neg (s - t),
    ← EReal.coe_strictMono.monotone.map_max (a := s - t), show max (s - t) (-(s - t)) = |s - t| from rfl, table_coe,
    ← EReal.coe_strictMono.monotone.map_max, ← EReal.coe_add, ← EReal.coe_strictMono.monotone.map_max,
    ← EReal.coe_strictMono.monotone.map_min]

/-- One step of both forms: states that are `δ` apart end at most `δ + 1 / 2500` apart. -/
theorem step_near {a b δ : ℝ} (h₁ : lo ≤ b) (h₂ : b ≤ hi) (hδ : 1 / 1000 ≤ δ) (h : |a - b| ≤ δ) (t : EReal) :
    ∃ a' b' : ℝ, tableMeet (a : EReal) t = (a' : EReal) ∧ meet (b : EReal) t = (b' : EReal)
      ∧ lo ≤ b' ∧ b' ≤ hi ∧ |a' - b'| ≤ δ + 1 / 2500 := by
  have hlh := lo_le_hi
  have h8 : |(-8 : ℝ) - lo| ≤ δ + 1 / 2500 := by linarith [lo_near]
  induction t using EReal.rec with
  | bot =>
    refine ⟨min hi (max (-8) (a + entry (32767 / 4096))), b, ?_, meet_bot h₁ h₂, h₁, h₂, ?_⟩
    · unfold tableMeet
      rw [show ((a : EReal) - ⊥) = ⊤ from rfl, max_eq_left bot_le, max_eq_left le_top, table_top, ← EReal.coe_add,
        ← EReal.coe_strictMono.monotone.map_max, ← EReal.coe_strictMono.monotone.map_min]
    · have e : b = min hi (max lo b) := by rw [max_eq_right h₁, min_eq_right h₂]
      rw [e]
      refine (clip_near _ _ _ _).trans (max_le h8 ?_)
      have := last_small
      rw [abs_le] at this h ⊢
      constructor <;> linarith [this.1, this.2, h.1, h.2]
  | top =>
    refine ⟨hi, hi, ?_, meet_top b, hlh, le_rfl, ?_⟩
    · unfold tableMeet
      rw [show ((a : EReal) - ⊤) = ⊥ from rfl, max_eq_right le_top, EReal.neg_bot, max_eq_right bot_le, table_top,
        EReal.top_add_coe, max_eq_right le_top, min_eq_left le_top]
    · rw [sub_self, abs_zero]; linarith
  | coe t =>
    refine ⟨_, min hi (max lo (Real.log (Real.exp b + Real.exp t))), tableMeet_coe a t, ?_, le_min hlh (le_max_left _ _),
      min_le_left _ _, ?_⟩
    · rw [meet_coe, clip_coe]
    · refine (clip_near _ _ _ _).trans (max_le h8 ?_)
      have e := max_add_log a t
      have h₃ := table_error (d := |a - t|)
      have h₄ := logsum_near a b t
      unfold corr at h₃
      rw [abs_le] at h₃ h₄ h ⊢
      constructor <;> linarith [h₃.1, h₃.2, h₄.1, h₄.2, le_abs_self (a - b), (abs_le.mpr h)]

/-- THE DRIFT: after `k` values the two states are reals within `1 / 1000 + k / 2500`. -/
theorem drift (t : ℕ → EReal) : ∀ k : ℕ, ∃ a b : ℝ, tableStream t k = (a : EReal) ∧ stream t k = (b : EReal)
    ∧ lo ≤ b ∧ b ≤ hi ∧ |a - b| ≤ 1 / 1000 + k / 2500
  | 0 => ⟨-8, lo, rfl, rfl, le_rfl, lo_le_hi, by simpa using lo_near⟩
  | k + 1 => by
    obtain ⟨a, b, ha, hb, h₁, h₂, h⟩ := drift t k
    obtain ⟨a', b', ha', hb', h₁', h₂', h'⟩ := step_near h₁ h₂ (le_add_of_nonneg_right (by positivity)) h (t k)
    refine ⟨a', b', ?_, ?_, h₁', h₂', ?_⟩
    · rw [← ha', ← ha]; rfl
    · rw [← hb', ← hb]; rfl
    · push_cast; linarith

/-- The quantised output against a real state is a whole number. -/
theorem level_coe (x s : ℝ) : level (x : EReal) (s : EReal)
    = ((min 127 (max (-128) (Ideal.roundHalfEven ((x - s) * 16))) : ℤ) : ℝ) := by
  unfold level
  rw [show ((x : EReal) - (s : EReal)) = ((x - s : ℝ) : EReal) by push_cast; rfl, ← EReal.coe_mul, Ideal.liftRound_coe,
    ← EReal.coe_strictMono.monotone.map_max, ← EReal.coe_strictMono.monotone.map_min]
  push_cast
  rfl

/-- Against states less than an eighth apart the outputs are at most two levels apart. -/
theorem level_near (x : EReal) {a b : ℝ} (h : |a - b| < 1 / 8) :
    ∃ p q : ℝ, level x (a : EReal) = (p : EReal) ∧ level x (b : EReal) = (q : EReal) ∧ |q - p| ≤ 2 := by
  induction x using EReal.rec with
  | bot =>
    have e : ∀ s : ℝ, level ⊥ (s : EReal) = ((-128 : ℝ) : EReal) := fun s => by
      unfold level
      rw [show ((⊥ : EReal) - (s : EReal)) = ⊥ from rfl, EReal.bot_mul_coe_of_pos (by norm_num), Ideal.liftRound_bot,
        max_eq_left bot_le, min_eq_right (by exact_mod_cast (by norm_num : (-128 : ℝ) ≤ 127))]
    exact ⟨-128, -128, e a, e b, by norm_num⟩
  | top =>
    have e : ∀ s : ℝ, level ⊤ (s : EReal) = ((127 : ℝ) : EReal) := fun s => by
      unfold level
      rw [show ((⊤ : EReal) - (s : EReal)) = ⊤ from rfl, EReal.top_mul_coe_of_pos (by norm_num), Ideal.liftRound_top,
        max_eq_right le_top, min_eq_left le_top]
    exact ⟨127, 127, e a, e b, by norm_num⟩
  | coe x =>
    refine ⟨_, _, level_coe x a, level_coe x b, ?_⟩
    have ha := roundHalfEven_near ((x - a) * 16)
    have hb := roundHalfEven_near ((x - b) * 16)
    generalize Ideal.roundHalfEven ((x - a) * 16) = m at *
    generalize Ideal.roundHalfEven ((x - b) * 16) = n at *
    rw [abs_le] at ha hb
    rw [abs_lt] at h
    have h₁ : (n : ℝ) - m < 3 := by linarith [ha.1, ha.2, hb.1, hb.2, h.1, h.2]
    have h₂ : (m : ℝ) - n < 3 := by linarith [ha.1, ha.2, hb.1, hb.2, h.1, h.2]
    have h₁' : n - m < 3 := by exact_mod_cast h₁
    have h₂' : m - n < 3 := by exact_mod_cast h₂
    have h₃ : |min 127 (max (-128) n) - min 127 (max (-128) m)| ≤ 2 := by
      rw [abs_le]; omega
    exact_mod_cast h₃

/-- THE OUTPUTS: after 256 values the output against the exact state and the output against the table's state differ by
    at most one eighth. -/
theorem outputs_near (t : ℕ → EReal) (x : EReal) :
    max (level x (stream t 256) * ((1 / 16 : ℝ) : EReal) - level x (tableStream t 256) * ((1 / 16 : ℝ) : EReal))
        (-(level x (stream t 256) * ((1 / 16 : ℝ) : EReal) - level x (tableStream t 256) * ((1 / 16 : ℝ) : EReal)))
      ≤ ((1 / 8 : ℝ) : EReal) := by
  obtain ⟨a, b, ha, hb, -, -, h⟩ := drift t 256
  obtain ⟨p, q, hp, hq, hpq⟩ := level_near x (a := a) (b := b) (h.trans_lt (by norm_num))
  rw [ha, hb, hp, hq, ← EReal.coe_mul, ← EReal.coe_mul, ← EReal.coe_sub, ← EReal.coe_neg,
    ← EReal.coe_strictMono.monotone.map_max, EReal.coe_le_coe_iff]
  rw [abs_le] at hpq
  exact max_le (by linarith [hpq.1, hpq.2]) (by linarith [hpq.1, hpq.2])

end Cert.LogSum

end
-- ==== Proof.BothLoop.lean ====
/-
  The reference with the table, run beside the kernel: what its loop computes at each row and lane, and its result element by
  element.
-/
module

public import proofs.«01_k».proof.Proof.BothKernel
public import proofs.«01_k».proof.Proof.RefValue
public import proofs.«01_k».proof.Proof.Drift
public import proofs.«01_k».proof.Proof.Gen.BothIdeal.Run

@[expose] public section

set_option maxRecDepth 16384

noncomputable section

namespace Cert.BothIdeal.Beside

open Idealize.ShloMosaic Idealize.ShloMosaic.TcCoe Idealize.ShloMosaic.Tactic Idealize.SL.Sem
open Cert.BothIdeal Cert.BothIdeal.Gen Cert.BothIdeal.Value Cert.LogSum
open Cert.KernelIdeal.Value (flat values)
open Cert.ReferenceIdeal.Stream (start_eq int_127 int_neg128)

variable (m : (ℓ : Loc nD τ sig) → Buf (Elt Ideal) ℓ) (ρ : Dev nD → PrngReg)

/-- A row block is read at the counter's row of the loop's array. -/
theorem slab_apply (V₀ : Valuation τ sig (Elt Ideal)) (j : ℕ) (hj : j < 256)
    (hc : V₀ (Proc.devRef .tc main_v5_1) = fun _ => BitVec.ofNat 32 j) (h w : Fin 384) :
    res_main_while0b_v15 V₀ (ix2 h w) = V₀ (Proc.devRef .tc main_v5_0) (ix3 (⟨j, hj⟩ : Fin 256) h w) := by
  unfold res_main_while0b_v15
  rw [hc]
  pointwise []
  congr 1
  funext a
  apply Fin.ext
  match a with
  | ⟨0, _⟩ => exact start_eq ⟨j, hj⟩
  | ⟨1, _⟩ =>
    show (min (max (BitVec.toInt (0#32 : BitVec 32)) 0) ((384 - 384 : ℕ) : ℤ)).toNat + h.val = h.val
    simp
  | ⟨2, _⟩ =>
    show (min (max (BitVec.toInt (0#32 : BitVec 32)) 0) ((384 - 384 : ℕ) : ℤ)).toNat + w.val = w.val
    simp

/-- A trip's new running sum at a row and lane is one step of the streaming form with the table. -/
theorem sum_apply (V₀ : Valuation τ sig (Elt Ideal)) (h w : Fin 384) :
    step_main_v5_2 V₀ (ix2 h w) = tableMeet (V₀ (Proc.devRef .tc main_v5_2) (ix2 h w)) (res_main_while0b_v15 V₀ (ix2 h w)) := by
  unfold step_main_v5_2
  generalize res_main_while0b_v15 V₀ = t
  generalize V₀ (Proc.devRef .tc main_v5_2) = s
  simp only [id_eq]
  pointwise []
  rw [bits_hi, bits_neg8, bits_4096, bits_32767, bits_65536]
  rfl

/-- At the loop's entry its array holds the flattened argument. -/
theorem array_entry (c : Dev nD) :
    Went m ρ c (Proc.devRef .tc main_v5_0) = flat (m ((c.tc : Thread nD τ).loc main_arg0)) := by
  show StableHlo.after hostOps1 (W2 m ρ c) (Proc.devRef .tc main_v5_0) = _
  after_results
  have hw : W2 m ρ c (Proc.devRef .tc main_arg0) = m ((c.tc : Thread nD τ).loc main_arg0) :=
    W2_args m ρ c main_arg0 (by decide)
  rw [hw]
  rfl

/-- At the loop's entry the running sum is minus eight. -/
theorem sum_entry (c : Dev nD) (h w : Fin 384) :
    Went m ρ c (Proc.devRef .tc main_v5_2) (ix2 h w) = ((-8 : ℝ) : EReal) := by
  show StableHlo.after hostOps1 (W2 m ρ c) (Proc.devRef .tc main_v5_2) (ix2 h w) = _
  after_results
  pointwise []
  exact bits_neg8

/-- The loop does not write its array. -/
theorem array_keeps (c : Dev nD) (k : ℕ) :
    Wk m ρ k c (Proc.devRef .tc main_v5_0) = flat (m ((c.tc : Thread nD τ).loc main_arg0)) :=
  (loop_keeps m ρ c main_v5_0 (by decide) (by decide) (by decide) (by decide) (by decide) (by decide) (by decide) k).trans
    (array_entry m ρ c)

/-- Before trip `k` the running sum is the state with the table after `k` values. -/
theorem sum_at (c : Dev nD) (h w : Fin 384) : ∀ k, k ≤ 256 → Wk m ρ k c (Proc.devRef .tc main_v5_2) (ix2 h w)
      = tableStream (values (flat (m ((c.tc : Thread nD τ).loc main_arg0))) h w) k
  | 0, _ => sum_entry m ρ c h w
  | k + 1, hk => by
    have hk' : k < 256 := hk
    have e : Wk m ρ (k + 1) c (Proc.devRef .tc main_v5_2) = step_main_v5_2 (Wk m ρ k c) :=
      (trip_agree (Wk m ρ k c) main_v5_2 (by decide)).trans (STEP_main_v5_2 _)
    have hc : Wk m ρ k c (Proc.devRef .tc main_v5_1) = fun _ => BitVec.ofNat 32 k := by
      rw [atK_ctr m ρ c k]
      funext _
      simp [Scf.iv]
    rw [e, sum_apply, slab_apply _ k hk' hc, sum_at c h w k hk'.le, array_keeps]
    show _ = tableMeet _ (values _ h w k)
    rw [values, dif_pos hk']

/-- At the end the second result is the level of the argument's element against the final running sum, over sixteen. -/
theorem table_final (c : Dev nD) (b : Fin 4) (d : Fin 64) (h w : Fin 384) :
    WN m ρ c (Proc.devRef .tc main_v14) (ix4 b d h w)
      = level (m ((c.tc : Thread nD τ).loc main_arg0) (ix4 b d h w))
          (tableStream (values (flat (m ((c.tc : Thread nD τ).loc main_arg0))) h w) 256) * ((1 / 16 : ℝ) : EReal) := by
  have hs : W4 m ρ c (Proc.devRef .tc main_v5_2) (ix2 h w)
      = tableStream (values (flat (m ((c.tc : Thread nD τ).loc main_arg0))) h w) 256 := by
    rw [show W4 m ρ c (Proc.devRef .tc main_v5_2) = Wk m ρ 256 c (Proc.devRef .tc main_v5_2) from
      StableHlo.after_of_writes_sub condOps _ condOps_writes (by decide)]
    exact sum_at m ρ c h w 256 le_rfl
  have hx : W4 m ρ c (Proc.devRef .tc main_arg0) = m ((c.tc : Thread nD τ).loc main_arg0) :=
    W4_args m ρ c main_arg0 (by decide)
  rw [← hs, ← hx, WN_eq]
  show StableHlo.after hostOps1_5 (StableHlo.after hostOps1_4 (StableHlo.after hostOps1_3 (StableHlo.after hostOps1_2
    (StableHlo.after hostOps1_1 (W4 m ρ c))))) (Proc.devRef .tc main_v14) (ix4 b d h w) = _
  generalize W4 m ρ c = V₀
  after_results
  simp only [StableHlo.TRef.toBuf, StableHlo.TRef.ofBuf, cast_eq]
  pointwise []
  rw [int_127, int_neg128, bits_16, Ideal.div_coe (by norm_num)]
  rfl

end Cert.BothIdeal.Beside

end
-- ==== Proof.BothPost.lean ====
/-
  The kernel's result and the result of the reference with the table are nowhere more than two levels of one sixteenth apart.
-/
module

public import proofs.«01_k».proof.Proof.Equation
public import proofs.«01_k».proof.Proof.BothLoop
public import proofs.«01_k».proof.Proof.Gen.Post_within_two_levels

@[expose] public section

set_option maxRecDepth 16384

noncomputable section

namespace Cert.BothIdeal.Beside

open Idealize.ShloMosaic Idealize.ShloMosaic.TcCoe Idealize.ShloMosaic.Tactic Idealize.SL.Sem
open Cert.BothIdeal Cert.BothIdeal.Gen Cert.LogSum
open Cert.KernelIdeal.Value (flat values called result)

/-- The predicate holds where the two results differ by at most one eighth everywhere. -/
theorem post_of_near (x p q : Vec Ideal S4x64x384x384 .f32)
    (hn : ∀ (b : Fin 4) (d : Fin 64) (h w : Fin 384), max (p (ix4 b d h w) - q (ix4 b d h w)) (-(p (ix4 b d h w) - q (ix4 b d h w)))
      ≤ ((1 / 8 : ℝ) : EReal)) :
    Cert.Post_within_two_levels.fn (F := Ideal) x p q = fun _ => 1#1 := by
  funext i
  obtain ⟨b, d, h, w, rfl⟩ : ∃ (b : Fin 4) (d : Fin 64) (h w : Fin 384), i = ix4 b d h w := ⟨i 0, i 1, i 2, i 3, eq_ix4 i⟩
  have e : Cert.Post_within_two_levels.fn (F := Ideal) x p q (ix4 b d h w)
      = Ideal.cmp .ole (max (p (ix4 b d h w) - q (ix4 b d h w)) (-(p (ix4 b d h w) - q (ix4 b d h w))))
          (Ideal.ofBits .f32 0x3E000000#32) := rfl
  rw [e, bits_eighth, Ideal.cmp_ole, decide_eq_true (hn b d h w)]
  rfl

variable (m : (ℓ : Loc nD τ sig) → Buf (Elt Ideal) ℓ) (ρ : Dev nD → PrngReg)

/-- At the end the two results are within two levels of each other. -/
theorem post (c : Dev nD) : Cert.Post_within_two_levels.fn (F := Ideal) (m ((c.tc : Thread nD τ).loc main_arg0))
    (WN m ρ c (Proc.devRef .tc main_v2)) (WN m ρ c (Proc.devRef .tc main_v14)) = fun _ => 1#1 := by
  refine post_of_near _ _ _ fun b d h w => ?_
  rw [table_final, result_final, kernel_apply]
  have hk : called (flat (m ((c.tc : Thread nD τ).loc main_arg0))) (ix3 (⟨b.val * 64 + d.val, by omega⟩ : Fin 256) h w)
      = level (m ((c.tc : Thread nD τ).loc main_arg0) (ix4 b d h w))
          (stream (values (flat (m ((c.tc : Thread nD τ).loc main_arg0))) h w) 256) * ((1 / 16 : ℝ) : EReal) := by
    rw [called, flat_apply, stream_eq]
    rfl
  rw [hk]
  exact outputs_near _ _

/-- The kernel and the reference with the table run, end with results within two levels of each other, and leave the argument
    unchanged. -/
theorem run : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ Cert.Post_within_two_levels.fn (F := Ideal) (m ((c.tc : Thread nD τ).loc main_arg0))
          (r.2.mem ((c.tc : Thread nD τ).loc main_v2)) (r.2.mem ((c.tc : Thread nD τ).loc main_v14)) = fun _ => 1#1) :=
  (θ_run defs _ _).mono (fun r hr c => by
    have h0 := hr c _ (mem_uc main_arg0 (by decide))
    have h2 := hr c _ (mem_uc main_v2 (by decide))
    have h14 := hr c _ (mem_uc main_v14 (by decide))
    refine ⟨h0.trans (WN_main_arg0 m ρ c), ?_⟩
    rw [show r.2.mem ((c.tc : Thread nD τ).loc main_v2) = WN m ρ c (Proc.devRef .tc main_v2) from h2,
      show r.2.mem ((c.tc : Thread nD τ).loc main_v14) = WN m ρ c (Proc.devRef .tc main_v14) from h14]
    exact post m ρ c) (run_main m ρ)

end Cert.BothIdeal.Beside

end
-- ==== Proof.lean ====
/-
  The claims of this proof: every program runs to its end and leaves its argument unchanged, the idealised kernel differs from
  the kernel by one named constant, over the extended reals the kernel's result is the reference's, and it is everywhere within
  two levels of one sixteenth of the result of the reference that reads its correction term from a table.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Both
public import proofs.«01_k».proof.Proof.Gen.Both.Skeleton
public import proofs.«01_k».proof.Proof.Gen.Both.Loops
public import proofs.«01_k».proof.Proof.Gen.Both.Launch
public import proofs.«01_k».proof.Proof.Gen.Both.Points
public import proofs.«01_k».proof.Proof.Gen.Both.Frame
public import proofs.«01_k».proof.Proof.Gen.BothIdeal
public import proofs.«01_k».proof.Proof.Gen.BothIdeal.Skeleton
public import proofs.«01_k».proof.Proof.Gen.BothIdeal.Loops
public import proofs.«01_k».proof.Proof.Gen.BothIdeal.Launch
public import proofs.«01_k».proof.Proof.Gen.BothIdeal.Points
public import proofs.«01_k».proof.Proof.Gen.BothIdeal.Frame
public import proofs.«01_k».proof.Proof.Gen.BothIdeal.Run
public import proofs.«01_k».proof.Proof.Gen.Post_within_two_levels
public import proofs.«01_k».proof.Proof.Equation
public import proofs.«01_k».proof.Proof.BothPost
public import Idealize.ShloMosaic.Adequacy
public import Idealize.ShloMosaic.Lib.Quiescent
public import Idealize.ShloMosaic.Init

@[expose] public section

noncomputable section

namespace Cert.Proof

open Idealize.ShloMosaic Idealize.SL.Sem

/-- From every start the reference runs to its end, its argument unchanged and every counter at zero. -/
theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = 0) :=
  (θ_run Cert.ReferenceIdeal.defs _ _).mono
    (fun r h => ⟨fun c => (h c).2, Idealize.ShloMosaic.sem_eq_zero_of_no_sems (by decide) r.2⟩)
    (Cert.ReferenceIdeal.Stream.run m ρ)

/-- The nine claims. -/
theorem claim : Cert.Claim := ⟨Cert.Kernel.Gen.facts, Cert.KernelIdeal.Gen.facts, Cert.ReferenceIdeal.Gen.facts,
  Cert.Both.Gen.facts, Cert.BothIdeal.Gen.facts, Cert.Post_within_two_levels.Gen.facts,
  fun m ρ _ => Cert.Kernel.Gen.frame m ρ,
  fun m ρ _ => Cert.KernelIdeal.Gen.frame m ρ,
  fun m ρ _ => reference_quiescent m ρ,
  fun m ρ _ => Cert.Both.Gen.frame m ρ,
  fun m ρ _ => Cert.BothIdeal.Gen.frame m ρ,
  IdealRules.named_const.statement Cert.KernelIdeal.κ "qmin" .f32 0xC1000000#32
    ((Real.log (1440801 / 4294967296) : ℝ) : EReal) rfl,
  by
    intro m ρ m' ρ' _ hagree
    refine ⟨fun c => Cert.KernelIdeal.Value.result (m ((c.tc : Thread Cert.KernelIdeal.nD Cert.KernelIdeal.τ).loc
      Cert.KernelIdeal.main_arg0)), Cert.KernelIdeal.Value.run m ρ, ?_⟩
    refine (θ_run Cert.ReferenceIdeal.defs _ _).mono (fun r h c => ⟨(h c).1.trans ?_, (h c).2⟩)
      (Cert.ReferenceIdeal.Stream.run m' ρ')
    rw [Cert.LogSum.results_eq]
    exact congrArg Cert.KernelIdeal.Value.result (hagree c),
  IdealRules.named_const.statement Cert.BothIdeal.κ "qmin" .f32 0xC1000000#32
    ((Real.log (1440801 / 4294967296) : ℝ) : EReal) rfl,
  fun m ρ _ => Cert.BothIdeal.Beside.run m ρ⟩

end Cert.Proof

end
